-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_seg_starts_sorted [hPre_seg_starts_sorted : Cert.Pre_seg_starts_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_seg_starts_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_seg_starts_sorted [hPre_seg_starts_sorted : Cert.Pre_seg_starts_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_seg_starts_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_seg_starts_sorted [hKernelIdeal : Cert.KernelIdeal.Facts] [hPre_seg_starts_sorted : Cert.Pre_seg_starts_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_seg_starts_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_seg_starts_sorted [hReferenceIdeal : Cert.ReferenceIdeal.Facts] [hPre_seg_starts_sorted : Cert.Pre_seg_starts_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_seg_starts_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_seg_starts_sorted [hKernelIdeal : Cert.KernelIdeal.Facts] [hReferenceIdeal : Cert.ReferenceIdeal.Facts] [hPre_seg_starts_sorted : Cert.Pre_seg_starts_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_seg_starts_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_seg_starts_sorted : Cert.Pre_seg_starts_sorted.Facts),
    quiescent_Kernel (hKernel := hKernel)
    ∧ quiescent_KernelIdeal (hKernelIdeal := hKernelIdeal)
    ∧ quiescent_KernelIdeal_pre_seg_starts_sorted (hKernelIdeal := hKernelIdeal) (hPre_seg_starts_sorted := hPre_seg_starts_sorted)
    ∧ quiescent_ReferenceIdeal (hReferenceIdeal := hReferenceIdeal)
    ∧ quiescent_ReferenceIdeal_pre_seg_starts_sorted (hReferenceIdeal := hReferenceIdeal) (hPre_seg_starts_sorted := hPre_seg_starts_sorted)
    ∧ preserves_Kernel_KernelIdeal
    ∧ algebraic_KernelIdeal_ReferenceIdeal_pre_seg_starts_sorted (hKernelIdeal := hKernelIdeal) (hReferenceIdeal := hReferenceIdeal) (hPre_seg_starts_sorted := hPre_seg_starts_sorted)
-- ==== Pre_seg_starts_sorted.lean ====
abbrev S4x2560x2048 : Shape := ⟨3, ![4, 2560, 2048]⟩
abbrev S4x2560x256 : Shape := ⟨3, ![4, 2560, 256]⟩
abbrev S8 : Shape := ⟨1, ![8]⟩
abbrev S3584x2048 : Shape := ⟨2, ![3584, 2048]⟩
abbrev S3584x256 : Shape := ⟨2, ![3584, 256]⟩
abbrev S1 : Shape := ⟨1, ![1]⟩
abbrev S7 : Shape := ⟨1, ![7]⟩
abbrev S_ : Shape := ⟨0, ![]⟩

class Facts : Prop where
  slices_S8_S7_0 : S8.Slices ![0] S7
  slices_S8_S7_1 : S8.Slices ![1] S7
  slices_S8_S1_0 : S8.Slices ![0] S1
  bcast_S_S1 : S_.BroadcastsInDim S1 (![] : Fin 0 → Fin S1.rank)
  bcast_S1_S7_0 : S1.BroadcastsInDim S7 (![0] : Fin 1 → Fin S7.rank)

variable [Facts]

def fn {F : FTy → Type} [FloatOps F] (main_arg0 : IVec S4x2560x2048 8) (main_arg1 : FVec F S4x2560x256 .fp8e4m3) (main_arg2 : FVec F S8 .f32) (main_arg3 : IVec S3584x2048 8) (main_arg4 : FVec F S3584x256 .fp8e4m3) (main_arg5 : FVec F S1 .f32) (main_arg6 : IVec S8 32) : IVec S7 1 :=
  let main_v0 : IVec S7 32 := (extractStridedSlice S7 ![0] · slices_S8_S7_0) main_arg6
  let main_v1 : IVec S7 32 := (extractStridedSlice S7 ![1] · slices_S8_S7_1) main_arg6
  let main_v2 : IVec S7 1 := cmpi .sle main_v0 main_v1
  let main_v3 : IVec S1 32 := (extractStridedSlice S1 ![0] · slices_S8_S1_0) main_arg6
  let main_c : IVec S_ 32 := constantI S_ 32 0#32
  let main_v4 : IVec S1 32 := broadcastInDim S1 ![] bcast_S_S1 main_c
  let main_v5 : IVec S1 1 := cmpi .sle main_v3 main_v4
  let main_v6 : IVec S7 1 := broadcastInDim S7 ![0] bcast_S1_S7_0 main_v5
  let main_v7 : IVec S7 1 := andi main_v2 main_v6
  main_v7
-- ==== Kernel.lean ====
abbrev S4x2560x2048 : Shape := ⟨3, ![4, 2560, 2048]⟩
abbrev S4x2560x256 : Shape := ⟨3, ![4, 2560, 256]⟩
abbrev S8 : Shape := ⟨1, ![8]⟩
abbrev S3584x2048 : Shape := ⟨2, ![3584, 2048]⟩
abbrev S3584x256 : Shape := ⟨2, ![3584, 256]⟩
abbrev S1 : Shape := ⟨1, ![1]⟩
abbrev S10240x2048 : Shape := ⟨2, ![10240, 2048]⟩
abbrev S10240x256 : Shape := ⟨2, ![10240, 256]⟩
abbrev S10240x3584 : Shape := ⟨2, ![10240, 3584]⟩
abbrev S512x2048 : Shape := ⟨2, ![512, 2048]⟩
abbrev S512x256 : Shape := ⟨2, ![512, 256]⟩
abbrev S512x3584 : Shape := ⟨2, ![512, 3584]⟩
abbrev S3584x4096 : Shape := ⟨2, ![3584, 4096]⟩
abbrev S512x4096 : Shape := ⟨2, ![512, 4096]⟩
abbrev S32x128 : Shape := ⟨2, ![32, 128]⟩
abbrev S32x128x1 : Shape := ⟨3, ![32, 128, 1]⟩
abbrev S8x128 : Shape := ⟨2, ![8, 128]⟩
abbrev S512x128 : Shape := ⟨2, ![512, 128]⟩

abbrev nBuf : Space → Nat
  | .hbm => 10
  | .vmem => 10
  | .smem => 3
  | _ => 0

abbrev bufTy : (tb : Table) → Fin (tcTables nBuf tb) → BufTy
  | .hbm, ⟨0, _⟩ => ⟨S4x2560x2048, .i8⟩
  | .hbm, ⟨1, _⟩ => ⟨S4x2560x256, .fp8e4m3⟩
  | .hbm, ⟨2, _⟩ => ⟨S8, .f32⟩
  | .hbm, ⟨3, _⟩ => ⟨S3584x2048, .i8⟩
  | .hbm, ⟨4, _⟩ => ⟨S3584x256, .fp8e4m3⟩
  | .hbm, ⟨5, _⟩ => ⟨S1, .f32⟩
  | .hbm, ⟨6, _⟩ => ⟨S8, .i32⟩
  | .hbm, ⟨7, _⟩ => ⟨S10240x2048, .i8⟩
  | .hbm, ⟨8, _⟩ => ⟨S10240x256, .fp8e4m3⟩
  | .hbm, ⟨9, _⟩ => ⟨S10240x3584, .bf16⟩
  | .local _ .vmem, ⟨0, _⟩ => ⟨S512x2048, .i8⟩
  | .local _ .vmem, ⟨1, _⟩ => ⟨S512x2048, .i8⟩
  | .local _ .vmem, ⟨2, _⟩ => ⟨S512x256, .fp8e4m3⟩
  | .local _ .vmem, ⟨3, _⟩ => ⟨S512x256, .fp8e4m3⟩
  | .local _ .vmem, ⟨4, _⟩ => ⟨S3584x2048, .i8⟩
  | .local _ .vmem, ⟨5, _⟩ => ⟨S3584x256, .fp8e4m3⟩
  | .local _ .vmem, ⟨6, _⟩ => ⟨S512x3584, .bf16⟩
  | .local _ .vmem, ⟨7, _⟩ => ⟨S512x3584, .bf16⟩
  | .local _ .vmem, ⟨8, _⟩ => ⟨S3584x4096, .bf16⟩
  | .local _ .vmem, ⟨9, _⟩ => ⟨S512x4096, .bf16⟩
  | .local _ .smem, ⟨0, _⟩ => ⟨S8, .i32⟩
  | .local _ .smem, ⟨1, _⟩ => ⟨S8, .f32⟩
  | .local _ .smem, ⟨2, _⟩ => ⟨S1, .f32⟩
  | _, _ => ⟨S4x2560x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_44 : BitVec 32 := 0#32
  let c112_i32 : BitVec 32 := 112#32
  let v224 : BitVec 32 := Scalar.addi c0_i32_44 c112_i32
  let c1_i32_45 : BitVec 32 := 1#32
  ⟨c0_i32_44, v224, c1_i32_45⟩
def k0_mult1 (k0_t1 : Fin k0_t1_loop.trips) : BitVec 32 :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  v225
def k0_off1 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v227 : Index := Scalar.indexCast v226
  let c0_47 : Index := 0#32
  ![v227.toNat, 0]
def k0_off2 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v243 : Index := Scalar.indexCast v226
  let c0_50 : Index := 0#32
  ![v243.toNat, 0]
def k0_off3 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v271 : Index := Scalar.indexCast v226
  let c0_55 : Index := 0#32
  ![v271.toNat, 0]
def k0_off4 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v275 : Index := Scalar.indexCast v226
  let c2048_56 : Index := 2048#32
  ![v275.toNat, 2048]
def k0_off5 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v295 : Index := Scalar.indexCast v226
  let c128_62 : Index := 128#32
  ![v295.toNat, 128]
def k0_off6 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v323 : Index := Scalar.indexCast v226
  let c128_71 : Index := 128#32
  ![v323.toNat, 128]
def k0_off7 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v327 : Index := Scalar.indexCast v226
  let c2176_72 : Index := 2176#32
  ![v327.toNat, 2176]
def k0_off8 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v347 : Index := Scalar.indexCast v226
  let c256_78 : Index := 256#32
  ![v347.toNat, 256]
def k0_off9 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v375 : Index := Scalar.indexCast v226
  let c256_87 : Index := 256#32
  ![v375.toNat, 256]
def k0_off10 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v379 : Index := Scalar.indexCast v226
  let c2304_88 : Index := 2304#32
  ![v379.toNat, 2304]
def k0_off11 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v399 : Index := Scalar.indexCast v226
  let c384_93 : Index := 384#32
  ![v399.toNat, 384]
def k0_off12 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v427 : Index := Scalar.indexCast v226
  let c384_102 : Index := 384#32
  ![v427.toNat, 384]
def k0_off13 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v431 : Index := Scalar.indexCast v226
  let c2432_103 : Index := 2432#32
  ![v431.toNat, 2432]
def k0_off14 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v451 : Index := Scalar.indexCast v226
  let c512_108 : Index := 512#32
  ![v451.toNat, 512]
def k0_off15 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v479 : Index := Scalar.indexCast v226
  let c512_117 : Index := 512#32
  ![v479.toNat, 512]
def k0_off16 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v483 : Index := Scalar.indexCast v226
  let c2560_118 : Index := 2560#32
  ![v483.toNat, 2560]
def k0_off17 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v503 : Index := Scalar.indexCast v226
  let c640_123 : Index := 640#32
  ![v503.toNat, 640]
def k0_off18 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v531 : Index := Scalar.indexCast v226
  let c640_132 : Index := 640#32
  ![v531.toNat, 640]
def k0_off19 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v535 : Index := Scalar.indexCast v226
  let c2688_133 : Index := 2688#32
  ![v535.toNat, 2688]
def k0_off20 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v555 : Index := Scalar.indexCast v226
  let c768_138 : Index := 768#32
  ![v555.toNat, 768]
def k0_off21 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v583 : Index := Scalar.indexCast v226
  let c768_147 : Index := 768#32
  ![v583.toNat, 768]
def k0_off22 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v587 : Index := Scalar.indexCast v226
  let c2816_148 : Index := 2816#32
  ![v587.toNat, 2816]
def k0_off23 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v607 : Index := Scalar.indexCast v226
  let c896_154 : Index := 896#32
  ![v607.toNat, 896]
def k0_off24 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v635 : Index := Scalar.indexCast v226
  let c896_163 : Index := 896#32
  ![v635.toNat, 896]
def k0_off25 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v639 : Index := Scalar.indexCast v226
  let c2944_164 : Index := 2944#32
  ![v639.toNat, 2944]
def k0_off26 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v643 : Index := Scalar.indexCast v226
  let c128_165 : Index := 128#32
  ![v643.toNat, 128]
def k0_off27 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v659 : Index := Scalar.indexCast v226
  let c1024_170 : Index := 1024#32
  ![v659.toNat, 1024]
def k0_off28 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v687 : Index := Scalar.indexCast v226
  let c1024_179 : Index := 1024#32
  ![v687.toNat, 1024]
def k0_off29 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v691 : Index := Scalar.indexCast v226
  let c3072_180 : Index := 3072#32
  ![v691.toNat, 3072]
def k0_off30 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v711 : Index := Scalar.indexCast v226
  let c1152_186 : Index := 1152#32
  ![v711.toNat, 1152]
def k0_off31 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v739 : Index := Scalar.indexCast v226
  let c1152_195 : Index := 1152#32
  ![v739.toNat, 1152]
def k0_off32 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v743 : Index := Scalar.indexCast v226
  let c3200_196 : Index := 3200#32
  ![v743.toNat, 3200]
def k0_off33 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v763 : Index := Scalar.indexCast v226
  let c1280_202 : Index := 1280#32
  ![v763.toNat, 1280]
def k0_off34 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v791 : Index := Scalar.indexCast v226
  let c1280_211 : Index := 1280#32
  ![v791.toNat, 1280]
def k0_off35 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v795 : Index := Scalar.indexCast v226
  let c3328_212 : Index := 3328#32
  ![v795.toNat, 3328]
def k0_off36 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v815 : Index := Scalar.indexCast v226
  let c1408_218 : Index := 1408#32
  ![v815.toNat, 1408]
def k0_off37 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v843 : Index := Scalar.indexCast v226
  let c1408_227 : Index := 1408#32
  ![v843.toNat, 1408]
def k0_off38 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v847 : Index := Scalar.indexCast v226
  let c3456_228 : Index := 3456#32
  ![v847.toNat, 3456]
def k0_off39 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v867 : Index := Scalar.indexCast v226
  let c1536_234 : Index := 1536#32
  ![v867.toNat, 1536]
def k0_off40 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v895 : Index := Scalar.indexCast v226
  let c1536_243 : Index := 1536#32
  ![v895.toNat, 1536]
def k0_off41 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v899 : Index := Scalar.indexCast v226
  let c3584 : Index := 3584#32
  ![v899.toNat, 3584]
def k0_off42 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v919 : Index := Scalar.indexCast v226
  let c1664_249 : Index := 1664#32
  ![v919.toNat, 1664]
def k0_off43 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v947 : Index := Scalar.indexCast v226
  let c1664_258 : Index := 1664#32
  ![v947.toNat, 1664]
def k0_off44 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v951 : Index := Scalar.indexCast v226
  let c3712 : Index := 3712#32
  ![v951.toNat, 3712]
def k0_off45 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v971 : Index := Scalar.indexCast v226
  let c1792_264 : Index := 1792#32
  ![v971.toNat, 1792]
def k0_off46 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v999 : Index := Scalar.indexCast v226
  let c1792_273 : Index := 1792#32
  ![v999.toNat, 1792]
def k0_off47 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v1003 : Index := Scalar.indexCast v226
  let c3840 : Index := 3840#32
  ![v1003.toNat, 3840]
def k0_off48 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v1023 : Index := Scalar.indexCast v226
  let c1920_279 : Index := 1920#32
  ![v1023.toNat, 1920]
def k0_off49 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v1051 : Index := Scalar.indexCast v226
  let c1920_288 : Index := 1920#32
  ![v1051.toNat, 1920]
def k0_off50 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32 : BitVec 32 := 32#32
  let v225 : BitVec 32 := Scalar.muli arg11 c32_i32
  let v226 : BitVec 32 := v225
  let v1055 : Index := Scalar.indexCast v226
  let c3968 : Index := 3968#32
  ![v1055.toNat, 3968]
@[reducible] def k0_t2_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  v224
def k0_off51 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v226 : Index := Scalar.indexCast v225
  let c0_44 : Index := 0#32
  ![v226.toNat, 0]
def k0_off52 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v243 : Index := Scalar.indexCast v225
  let c0_47 : Index := 0#32
  ![v243.toNat, 0]
def k0_off53 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v270 : Index := Scalar.indexCast v225
  let c0_51 : Index := 0#32
  ![v270.toNat, 0]
def k0_off54 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v274 : Index := Scalar.indexCast v225
  let c2048_52 : Index := 2048#32
  ![v274.toNat, 2048]
def k0_off55 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v295 : Index := Scalar.indexCast v225
  let c128_58 : Index := 128#32
  ![v295.toNat, 128]
def k0_off56 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v322 : Index := Scalar.indexCast v225
  let c128_66 : Index := 128#32
  ![v322.toNat, 128]
def k0_off57 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v326 : Index := Scalar.indexCast v225
  let c2176_67 : Index := 2176#32
  ![v326.toNat, 2176]
def k0_off58 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v347 : Index := Scalar.indexCast v225
  let c256_73 : Index := 256#32
  ![v347.toNat, 256]
def k0_off59 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v374 : Index := Scalar.indexCast v225
  let c256_81 : Index := 256#32
  ![v374.toNat, 256]
def k0_off60 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v378 : Index := Scalar.indexCast v225
  let c2304_82 : Index := 2304#32
  ![v378.toNat, 2304]
def k0_off61 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v399 : Index := Scalar.indexCast v225
  let c384_87 : Index := 384#32
  ![v399.toNat, 384]
def k0_off62 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v426 : Index := Scalar.indexCast v225
  let c384_95 : Index := 384#32
  ![v426.toNat, 384]
def k0_off63 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v430 : Index := Scalar.indexCast v225
  let c2432_96 : Index := 2432#32
  ![v430.toNat, 2432]
def k0_off64 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v451 : Index := Scalar.indexCast v225
  let c512_101 : Index := 512#32
  ![v451.toNat, 512]
def k0_off65 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v478 : Index := Scalar.indexCast v225
  let c512_109 : Index := 512#32
  ![v478.toNat, 512]
def k0_off66 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v482 : Index := Scalar.indexCast v225
  let c2560_110 : Index := 2560#32
  ![v482.toNat, 2560]
def k0_off67 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v503 : Index := Scalar.indexCast v225
  let c640_115 : Index := 640#32
  ![v503.toNat, 640]
def k0_off68 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v530 : Index := Scalar.indexCast v225
  let c640_123 : Index := 640#32
  ![v530.toNat, 640]
def k0_off69 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v534 : Index := Scalar.indexCast v225
  let c2688_124 : Index := 2688#32
  ![v534.toNat, 2688]
def k0_off70 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v555 : Index := Scalar.indexCast v225
  let c768_129 : Index := 768#32
  ![v555.toNat, 768]
def k0_off71 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v582 : Index := Scalar.indexCast v225
  let c768_137 : Index := 768#32
  ![v582.toNat, 768]
def k0_off72 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v586 : Index := Scalar.indexCast v225
  let c2816_138 : Index := 2816#32
  ![v586.toNat, 2816]
def k0_off73 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v607 : Index := Scalar.indexCast v225
  let c896_143 : Index := 896#32
  ![v607.toNat, 896]
def k0_off74 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v634 : Index := Scalar.indexCast v225
  let c896_151 : Index := 896#32
  ![v634.toNat, 896]
def k0_off75 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v638 : Index := Scalar.indexCast v225
  let c2944_152 : Index := 2944#32
  ![v638.toNat, 2944]
def k0_off76 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v642 : Index := Scalar.indexCast v225
  let c128_153 : Index := 128#32
  ![v642.toNat, 128]
def k0_off77 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v659 : Index := Scalar.indexCast v225
  let c1024_158 : Index := 1024#32
  ![v659.toNat, 1024]
def k0_off78 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v686 : Index := Scalar.indexCast v225
  let c1024_166 : Index := 1024#32
  ![v686.toNat, 1024]
def k0_off79 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v690 : Index := Scalar.indexCast v225
  let c3072_167 : Index := 3072#32
  ![v690.toNat, 3072]
def k0_off80 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v711 : Index := Scalar.indexCast v225
  let c1152_173 : Index := 1152#32
  ![v711.toNat, 1152]
def k0_off81 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v738 : Index := Scalar.indexCast v225
  let c1152_181 : Index := 1152#32
  ![v738.toNat, 1152]
def k0_off82 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v742 : Index := Scalar.indexCast v225
  let c3200_182 : Index := 3200#32
  ![v742.toNat, 3200]
def k0_off83 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v763 : Index := Scalar.indexCast v225
  let c1280_188 : Index := 1280#32
  ![v763.toNat, 1280]
def k0_off84 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v790 : Index := Scalar.indexCast v225
  let c1280_196 : Index := 1280#32
  ![v790.toNat, 1280]
def k0_off85 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v794 : Index := Scalar.indexCast v225
  let c3328_197 : Index := 3328#32
  ![v794.toNat, 3328]
def k0_off86 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v815 : Index := Scalar.indexCast v225
  let c1408_203 : Index := 1408#32
  ![v815.toNat, 1408]
def k0_off87 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v842 : Index := Scalar.indexCast v225
  let c1408_211 : Index := 1408#32
  ![v842.toNat, 1408]
def k0_off88 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v846 : Index := Scalar.indexCast v225
  let c3456_212 : Index := 3456#32
  ![v846.toNat, 3456]
def k0_off89 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v867 : Index := Scalar.indexCast v225
  let c1536_218 : Index := 1536#32
  ![v867.toNat, 1536]
def k0_off90 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v894 : Index := Scalar.indexCast v225
  let c1536_226 : Index := 1536#32
  ![v894.toNat, 1536]
def k0_off91 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v898 : Index := Scalar.indexCast v225
  let c3584 : Index := 3584#32
  ![v898.toNat, 3584]
def k0_off92 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v919 : Index := Scalar.indexCast v225
  let c1664_232 : Index := 1664#32
  ![v919.toNat, 1664]
def k0_off93 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v946 : Index := Scalar.indexCast v225
  let c1664_240 : Index := 1664#32
  ![v946.toNat, 1664]
def k0_off94 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v950 : Index := Scalar.indexCast v225
  let c3712 : Index := 3712#32
  ![v950.toNat, 3712]
def k0_off95 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v971 : Index := Scalar.indexCast v225
  let c1792_246 : Index := 1792#32
  ![v971.toNat, 1792]
def k0_off96 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v998 : Index := Scalar.indexCast v225
  let c1792_254 : Index := 1792#32
  ![v998.toNat, 1792]
def k0_off97 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v1002 : Index := Scalar.indexCast v225
  let c3840 : Index := 3840#32
  ![v1002.toNat, 3840]
def k0_off98 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v1023 : Index := Scalar.indexCast v225
  let c1920_260 : Index := 1920#32
  ![v1023.toNat, 1920]
def k0_off99 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v1050 : Index := Scalar.indexCast v225
  let c1920_268 : Index := 1920#32
  ![v1050.toNat, 1920]
def k0_off100 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let c32_i32 : BitVec 32 := 32#32
  let v224 : BitVec 32 := Scalar.muli arg11 c32_i32
  let v225 : BitVec 32 := v224
  let v1054 : Index := Scalar.indexCast v225
  let c3968 : Index := 3968#32
  ![v1054.toNat, 3968]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3584x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3584x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x2560x2048 : Shape := ⟨3, ![4, 2560, 2048]⟩
abbrev S4x2560x256 : Shape := ⟨3, ![4, 2560, 256]⟩
abbrev S8 : Shape := ⟨1, ![8]⟩
abbrev S3584x2048 : Shape := ⟨2, ![3584, 2048]⟩
abbrev S3584x256 : Shape := ⟨2, ![3584, 256]⟩
abbrev S1 : Shape := ⟨1, ![1]⟩
abbrev S_ : Shape := ⟨0, ![]⟩
abbrev S1x4x2560x2048 : Shape := ⟨4, ![1, 4, 2560, 2048]⟩
abbrev S2x4x2560x2048 : Shape := ⟨4, ![2, 4, 2560, 2048]⟩
abbrev S2x4x2560x256x8 : Shape := ⟨5, ![2, 4, 2560, 256, 8]⟩
abbrev S4x2560x256x1 : Shape := ⟨4, ![4, 2560, 256, 1]⟩
abbrev S1x4x2560x256x1 : Shape := ⟨5, ![1, 4, 2560, 256, 1]⟩
abbrev S1x3584x2048 : Shape := ⟨3, ![1, 3584, 2048]⟩
abbrev S2x3584x2048 : Shape := ⟨3, ![2, 3584, 2048]⟩
abbrev S2x3584x256x8 : Shape := ⟨4, ![2, 3584, 256, 8]⟩
abbrev S3584x256x1 : Shape := ⟨3, ![3584, 256, 1]⟩
abbrev S1x3584x256x1 : Shape := ⟨4, ![1, 3584, 256, 1]⟩
abbrev S4x2560x3584 : Shape := ⟨3, ![4, 2560, 3584]⟩
abbrev S10240 : Shape := ⟨1, ![10240]⟩
abbrev S1x10240 : Shape := ⟨2, ![1, 10240]⟩
abbrev S8x1 : Shape := ⟨2, ![8, 1]⟩
abbrev S8x10240 : Shape := ⟨2, ![8, 10240]⟩
abbrev S10240x1 : Shape := ⟨2, ![10240, 1]⟩
abbrev S4x2560x1 : Shape := ⟨3, ![4, 2560, 1]⟩
abbrev S10240x3584 : Shape := ⟨2, ![10240, 3584]⟩

abbrev nBuf : Space → Nat
  | .hbm => 179
  | .vmem => 4
  | .smem => 0
  | _ => 0

abbrev hbmTy0_0 (i : Nat) : BufTy := match i % 128 with
  | 0 => ⟨S4x2560x2048, .i8⟩
  | 1 => ⟨S4x2560x256, .fp8e4m3⟩
  | 2 => ⟨S8, .f32⟩
  | 3 => ⟨S3584x2048, .i8⟩
  | 4 => ⟨S3584x256, .fp8e4m3⟩
  | 5 => ⟨S1, .f32⟩
  | 6 => ⟨S8, .i32⟩
  | 7 => ⟨S4x2560x256, .bf16⟩
  | 8 => ⟨S3584x256, .bf16⟩
  | 9 => ⟨S4x2560x2048, .i32⟩
  | 10 => ⟨S3584x2048, .i32⟩
  | 11 => ⟨S_, .i32⟩
  | 12 => ⟨S4x2560x2048, .i32⟩
  | 13 => ⟨S4x2560x2048, .i32⟩
  | 14 => ⟨S_, .i32⟩
  | 15 => ⟨S4x2560x2048, .i32⟩
  | 16 => ⟨S4x2560x2048, .i32⟩
  | 17 => ⟨S1x4x2560x2048, .i32⟩
  | 18 => ⟨S1x4x2560x2048, .i32⟩
  | 19 => ⟨S2x4x2560x2048, .i32⟩
  | 20 => ⟨S_, .i32⟩
  | 21 => ⟨S2x4x2560x2048, .i32⟩
  | 22 => ⟨S2x4x2560x2048, .i32⟩
  | 23 => ⟨S_, .i32⟩
  | 24 => ⟨S2x4x2560x2048, .i32⟩
  | 25 => ⟨S2x4x2560x2048, .i1⟩
  | 26 => ⟨S_, .i32⟩
  | 27 => ⟨S2x4x2560x2048, .i32⟩
  | 28 => ⟨S2x4x2560x2048, .i32⟩
  | 29 => ⟨S_, .i32⟩
  | 30 => ⟨S2x4x2560x2048, .i32⟩
  | 31 => ⟨S2x4x2560x2048, .i1⟩
  | 32 => ⟨S_, .i32⟩
  | 33 => ⟨S2x4x2560x2048, .i32⟩
  | 34 => ⟨S2x4x2560x2048, .i32⟩
  | 35 => ⟨S_, .i32⟩
  | 36 => ⟨S2x4x2560x2048, .i32⟩
  | 37 => ⟨S2x4x2560x2048, .i1⟩
  | 38 => ⟨S_, .i32⟩
  | 39 => ⟨S2x4x2560x2048, .i32⟩
  | 40 => ⟨S2x4x2560x2048, .i32⟩
  | 41 => ⟨S_, .i32⟩
  | 42 => ⟨S2x4x2560x2048, .i32⟩
  | 43 => ⟨S2x4x2560x2048, .i1⟩
  | 44 => ⟨S_, .bf16⟩
  | 45 => ⟨S_, .bf16⟩
  | 46 => ⟨S2x4x2560x2048, .bf16⟩
  | 47 => ⟨S2x4x2560x2048, .bf16⟩
  | 48 => ⟨S2x4x2560x2048, .bf16⟩
  | 49 => ⟨S_, .bf16⟩
  | 50 => ⟨S_, .bf16⟩
  | 51 => ⟨S2x4x2560x2048, .bf16⟩
  | 52 => ⟨S2x4x2560x2048, .bf16⟩
  | 53 => ⟨S2x4x2560x2048, .bf16⟩
  | 54 => ⟨S_, .bf16⟩
  | 55 => ⟨S_, .bf16⟩
  | 56 => ⟨S2x4x2560x2048, .bf16⟩
  | 57 => ⟨S2x4x2560x2048, .bf16⟩
  | 58 => ⟨S2x4x2560x2048, .bf16⟩
  | 59 => ⟨S_, .bf16⟩
  | 60 => ⟨S_, .bf16⟩
  | 61 => ⟨S2x4x2560x2048, .bf16⟩
  | 62 => ⟨S2x4x2560x2048, .bf16⟩
  | 63 => ⟨S2x4x2560x2048, .bf16⟩
  | 64 => ⟨S2x4x2560x2048, .bf16⟩
  | 65 => ⟨S2x4x2560x2048, .bf16⟩
  | 66 => ⟨S2x4x2560x2048, .bf16⟩
  | 67 => ⟨S2x4x2560x2048, .bf16⟩
  | 68 => ⟨S2x4x2560x2048, .bf16⟩
  | 69 => ⟨S2x4x2560x256x8, .bf16⟩
  | 70 => ⟨S4x2560x256x1, .bf16⟩
  | 71 => ⟨S1x4x2560x256x1, .bf16⟩
  | 72 => ⟨S2x4x2560x256x8, .bf16⟩
  | 73 => ⟨S2x4x2560x256x8, .bf16⟩
  | 74 => ⟨S2x4x2560x2048, .bf16⟩
  | 75 => ⟨S1x4x2560x2048, .bf16⟩
  | 76 => ⟨S4x2560x2048, .bf16⟩
  | 77 => ⟨S1x4x2560x2048, .bf16⟩
  | 78 => ⟨S4x2560x2048, .bf16⟩
  | 79 => ⟨S_, .i32⟩
  | 80 => ⟨S3584x2048, .i32⟩
  | 81 => ⟨S3584x2048, .i32⟩
  | 82 => ⟨S_, .i32⟩
  | 83 => ⟨S3584x2048, .i32⟩
  | 84 => ⟨S3584x2048, .i32⟩
  | 85 => ⟨S1x3584x2048, .i32⟩
  | 86 => ⟨S1x3584x2048, .i32⟩
  | 87 => ⟨S2x3584x2048, .i32⟩
  | 88 => ⟨S_, .i32⟩
  | 89 => ⟨S2x3584x2048, .i32⟩
  | 90 => ⟨S2x3584x2048, .i32⟩
  | 91 => ⟨S_, .i32⟩
  | 92 => ⟨S2x3584x2048, .i32⟩
  | 93 => ⟨S2x3584x2048, .i1⟩
  | 94 => ⟨S_, .i32⟩
  | 95 => ⟨S2x3584x2048, .i32⟩
  | 96 => ⟨S2x3584x2048, .i32⟩
  | 97 => ⟨S_, .i32⟩
  | 98 => ⟨S2x3584x2048, .i32⟩
  | 99 => ⟨S2x3584x2048, .i1⟩
  | 100 => ⟨S_, .i32⟩
  | 101 => ⟨S2x3584x2048, .i32⟩
  | 102 => ⟨S2x3584x2048, .i32⟩
  | 103 => ⟨S_, .i32⟩
  | 104 => ⟨S2x3584x2048, .i32⟩
  | 105 => ⟨S2x3584x2048, .i1⟩
  | 106 => ⟨S_, .i32⟩
  | 107 => ⟨S2x3584x2048, .i32⟩
  | 108 => ⟨S2x3584x2048, .i32⟩
  | 109 => ⟨S_, .i32⟩
  | 110 => ⟨S2x3584x2048, .i32⟩
  | 111 => ⟨S2x3584x2048, .i1⟩
  | 112 => ⟨S_, .bf16⟩
  | 113 => ⟨S_, .bf16⟩
  | 114 => ⟨S2x3584x2048, .bf16⟩
  | 115 => ⟨S2x3584x2048, .bf16⟩
  | 116 => ⟨S2x3584x2048, .bf16⟩
  | 117 => ⟨S_, .bf16⟩
  | 118 => ⟨S_, .bf16⟩
  | 119 => ⟨S2x3584x2048, .bf16⟩
  | 120 => ⟨S2x3584x2048, .bf16⟩
  | 121 => ⟨S2x3584x2048, .bf16⟩
  | 122 => ⟨S_, .bf16⟩
  | 123 => ⟨S_, .bf16⟩
  | 124 => ⟨S2x3584x2048, .bf16⟩
  | 125 => ⟨S2x3584x2048, .bf16⟩
  | 126 => ⟨S2x3584x2048, .bf16⟩
  | 127 => ⟨S_, .bf16⟩
  | _ => ⟨S4x2560x2048, .i8⟩

abbrev hbmTy0_1 (i : Nat) : BufTy := match i % 128 with
  | 0 => ⟨S_, .bf16⟩
  | 1 => ⟨S2x3584x2048, .bf16⟩
  | 2 => ⟨S2x3584x2048, .bf16⟩
  | 3 => ⟨S2x3584x2048, .bf16⟩
  | 4 => ⟨S2x3584x2048, .bf16⟩
  | 5 => ⟨S2x3584x2048, .bf16⟩
  | 6 => ⟨S2x3584x2048, .bf16⟩
  | 7 => ⟨S2x3584x2048, .bf16⟩
  | 8 => ⟨S2x3584x2048, .bf16⟩
  | 9 => ⟨S2x3584x256x8, .bf16⟩
  | 10 => ⟨S3584x256x1, .bf16⟩
  | 11 => ⟨S1x3584x256x1, .bf16⟩
  | 12 => ⟨S2x3584x256x8, .bf16⟩
  | 13 => ⟨S2x3584x256x8, .bf16⟩
  | 14 => ⟨S2x3584x2048, .bf16⟩
  | 15 => ⟨S1x3584x2048, .bf16⟩
  | 16 => ⟨S3584x2048, .bf16⟩
  | 17 => ⟨S1x3584x2048, .bf16⟩
  | 18 => ⟨S3584x2048, .bf16⟩
  | 19 => ⟨S4x2560x3584, .f32⟩
  | 20 => ⟨S4x2560x3584, .f32⟩
  | 21 => ⟨S4x2560x3584, .f32⟩
  | 22 => ⟨S10240, .i32⟩
  | 23 => ⟨S1x10240, .i32⟩
  | 24 => ⟨S8x1, .i32⟩
  | 25 => ⟨S8x10240, .i32⟩
  | 26 => ⟨S8x10240, .i32⟩
  | 27 => ⟨S8x10240, .i1⟩
  | 28 => ⟨S8x10240, .i32⟩
  | 29 => ⟨S_, .i32⟩
  | 30 => ⟨S10240, .i32⟩
  | 31 => ⟨S_, .i32⟩
  | 32 => ⟨S10240, .i32⟩
  | 33 => ⟨S10240, .i32⟩
  | 34 => ⟨S_, .i32⟩
  | 35 => ⟨S10240, .i32⟩
  | 36 => ⟨S10240, .i1⟩
  | 37 => ⟨S_, .i32⟩
  | 38 => ⟨S10240, .i32⟩
  | 39 => ⟨S10240, .i32⟩
  | 40 => ⟨S10240, .i32⟩
  | 41 => ⟨S10240x1, .i32⟩
  | 42 => ⟨S10240, .f32⟩
  | 43 => ⟨S4x2560x1, .f32⟩
  | 44 => ⟨S4x2560x3584, .f32⟩
  | 45 => ⟨S4x2560x3584, .f32⟩
  | 46 => ⟨S_, .f32⟩
  | 47 => ⟨S4x2560x3584, .f32⟩
  | 48 => ⟨S4x2560x3584, .f32⟩
  | 49 => ⟨S4x2560x3584, .bf16⟩
  | 50 => ⟨S10240x3584, .bf16⟩
  | _ => ⟨S4x2560x2048, .i8⟩

abbrev hbmTy (i : Nat) : BufTy := match i / 128 with
  | 0 => hbmTy0_0 i
  | 1 => hbmTy0_1 i
  | _ => ⟨S4x2560x2048, .i8⟩

abbrev bufTy : (tb : Table) → Fin (tcTables nBuf tb) → BufTy
  | .hbm, ⟨i, _⟩ => hbmTy i
  | .local _ .vmem, ⟨0, _⟩ => ⟨S4x2560x256, .fp8e4m3⟩
  | .local _ .vmem, ⟨1, _⟩ => ⟨S3584x256, .fp8e4m3⟩
  | .local _ .vmem, ⟨2, _⟩ => ⟨S4x2560x256, .bf16⟩
  | .local _ .vmem, ⟨3, _⟩ => ⟨S3584x256, .bf16⟩
  | _, _ => ⟨S4x2560x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_c_8 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_cst_9 : Ref sig .tc := ⟨.hbm, 45, rfl⟩
abbrev main_call0_v0 : Ref sig .tc := ⟨.hbm, 46, rfl⟩
abbrev main_call0_v1 : Ref sig .tc := ⟨.hbm, 47, rfl⟩
abbrev main_v26 : Ref sig .tc := ⟨.hbm, 48, rfl⟩
abbrev main_cst_10 : Ref sig .tc := ⟨.hbm, 49, rfl⟩
abbrev main_cst_11 : Ref sig .tc := ⟨.hbm, 50, rfl⟩
abbrev main_call1_v0 : Ref sig .tc := ⟨.hbm, 51, rfl⟩
abbrev main_call1_v1 : Ref sig .tc := ⟨.hbm, 52, rfl⟩
abbrev main_v27 : Ref sig .tc := ⟨.hbm, 53, rfl⟩
abbrev main_cst_12 : Ref sig .tc := ⟨.hbm, 54, rfl⟩
abbrev main_cst_13 : Ref sig .tc := ⟨.hbm, 55, rfl⟩
abbrev main_call2_v0 : Ref sig .tc := ⟨.hbm, 56, rfl⟩
abbrev main_call2_v1 : Ref sig .tc := ⟨.hbm, 57, rfl⟩
abbrev main_v28 : Ref sig .tc := ⟨.hbm, 58, rfl⟩
abbrev main_cst_14 : Ref sig .tc := ⟨.hbm, 59, rfl⟩
abbrev main_cst_15 : Ref sig .tc := ⟨.hbm, 60, rfl⟩
abbrev main_call3_v0 : Ref sig .tc := ⟨.hbm, 61, rfl⟩
abbrev main_call3_v1 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_16 : Ref sig .tc := ⟨.hbm, 79, rfl⟩
abbrev main_v45 : Ref sig .tc := ⟨.hbm, 80, rfl⟩
abbrev main_v46 : Ref sig .tc := ⟨.hbm, 81, rfl⟩
abbrev main_c_17 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_18 : Ref sig .tc := ⟨.hbm, 88, rfl⟩
abbrev main_v52 : Ref sig .tc := ⟨.hbm, 89, rfl⟩
abbrev main_v53 : Ref sig .tc := ⟨.hbm, 90, rfl⟩
abbrev main_c_19 : Ref sig .tc := ⟨.hbm, 91, rfl⟩
abbrev main_v54 : Ref sig .tc := ⟨.hbm, 92, rfl⟩
abbrev main_v55 : Ref sig .tc := ⟨.hbm, 93, rfl⟩
abbrev main_c_20 : Ref sig .tc := ⟨.hbm, 94, rfl⟩
abbrev main_v56 : Ref sig .tc := ⟨.hbm, 95, rfl⟩
abbrev main_v57 : Ref sig .tc := ⟨.hbm, 96, rfl⟩
abbrev main_c_21 : Ref sig .tc := ⟨.hbm, 97, rfl⟩
abbrev main_v58 : Ref sig .tc := ⟨.hbm, 98, rfl⟩
abbrev main_v59 : Ref sig .tc := ⟨.hbm, 99, rfl⟩
abbrev main_c_22 : Ref sig .tc := ⟨.hbm, 100, rfl⟩
abbrev main_v60 : Ref sig .tc := ⟨.hbm, 101, rfl⟩
abbrev main_v61 : Ref sig .tc := ⟨.hbm, 102, rfl⟩
abbrev main_c_23 : Ref sig .tc := ⟨.hbm, 103, rfl⟩
abbrev main_v62 : Ref sig .tc := ⟨.hbm, 104, rfl⟩
abbrev main_v63 : Ref sig .tc := ⟨.hbm, 105, rfl⟩
abbrev main_c_24 : Ref sig .tc := ⟨.hbm, 106, rfl⟩
abbrev main_v64 : Ref sig .tc := ⟨.hbm, 107, rfl⟩
abbrev main_v65 : Ref sig .tc := ⟨.hbm, 108, rfl⟩
abbrev main_c_25 : Ref sig .tc := ⟨.hbm, 109, rfl⟩
abbrev main_v66 : Ref sig .tc := ⟨.hbm, 110, rfl⟩
abbrev main_v67 : Ref sig .tc := ⟨.hbm, 111, rfl⟩
abbrev main_cst_26 : Ref sig .tc := ⟨.hbm, 112, rfl⟩
abbrev main_cst_27 : Ref sig .tc := ⟨.hbm, 113, rfl⟩
abbrev main_call8_v0 : Ref sig .tc := ⟨.hbm, 114, rfl⟩
abbrev main_call8_v1 : Ref sig .tc := ⟨.hbm, 115, rfl⟩
abbrev main_v68 : Ref sig .tc := ⟨.hbm, 116, rfl⟩
abbrev main_cst_28 : Ref sig .tc := ⟨.hbm, 117, rfl⟩
abbrev main_cst_29 : Ref sig .tc := ⟨.hbm, 118, rfl⟩
abbrev main_call9_v0 : Ref sig .tc := ⟨.hbm, 119, rfl⟩
abbrev main_call9_v1 : Ref sig .tc := ⟨.hbm, 120, rfl⟩
abbrev main_v69 : Ref sig .tc := ⟨.hbm, 121, rfl⟩
abbrev main_cst_30 : Ref sig .tc := ⟨.hbm, 122, rfl⟩
abbrev main_cst_31 : Ref sig .tc := ⟨.hbm, 123, rfl⟩
abbrev main_call10_v0 : Ref sig .tc := ⟨.hbm, 124, rfl⟩
abbrev main_call10_v1 : Ref sig .tc := ⟨.hbm, 125, rfl⟩
abbrev main_v70 : Ref sig .tc := ⟨.hbm, 126, rfl⟩
abbrev main_cst_32 : Ref sig .tc := ⟨.hbm, 127, rfl⟩
abbrev main_cst_33 : Ref sig .tc := ⟨.hbm, 128, rfl⟩
abbrev main_call11_v0 : Ref sig .tc := ⟨.hbm, 129, rfl⟩
abbrev main_call11_v1 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_call16_call0_v0 : Ref sig .tc := ⟨.hbm, 151, rfl⟩
abbrev main_call16_call0_v1 : Ref sig .tc := ⟨.hbm, 152, rfl⟩
abbrev main_call16_call0_v2 : Ref sig .tc := ⟨.hbm, 153, rfl⟩
abbrev main_call16_call0_v3 : Ref sig .tc := ⟨.hbm, 154, rfl⟩
abbrev main_call16_call0_v4 : Ref sig .tc := ⟨.hbm, 155, rfl⟩
abbrev main_call16_call0_v5 : Ref sig .tc := ⟨.hbm, 156, rfl⟩
abbrev main_call16_call0_c : Ref sig .tc := ⟨.hbm, 157, rfl⟩
abbrev main_v91 : Ref sig .tc := ⟨.hbm, 158, rfl⟩
abbrev main_c_34 : Ref sig .tc := ⟨.hbm, 159, rfl⟩
abbrev main_v92 : Ref sig .tc := ⟨.hbm, 160, rfl⟩
abbrev main_v93 : Ref sig .tc := ⟨.hbm, 161, rfl⟩
abbrev main_c_35 : Ref sig .tc := ⟨.hbm, 162, rfl⟩
abbrev main_v94 : Ref sig .tc := ⟨.hbm, 163, rfl⟩
abbrev main_v95 : Ref sig .tc := ⟨.hbm, 164, rfl⟩
abbrev main_c_36 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x2560x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2560x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Codes.lean ====
/-
  Hand-written, untrusted. How the kernel decodes four-bit weights and activations: it reads 32×128 code bytes as 8×128 words,
  moves the bits of every nibble to the places of an fp8 number's sign, exponent and mantissa with shifts and masks on the
  whole words, and reads the words back as fp8 numbers. Here: that this acts on each byte alone (`perByte`), and which number
  each nibble becomes (`lo_value`, `hi_value`): the e2m1 value of the nibble times 2^-6.
-/
module

public import Idealize.ShloMosaic.Lib.BitcastFour
public import Idealize.ShloMosaic.Lib.ValueIdx
public import Idealize.ShloMosaic.PureOps.Ideal
public import Mathlib.Tactic.IntervalCases
public import Mathlib.Tactic.NormNum

@[expose] public section

noncomputable section

namespace Cert.Codes

open Idealize.ShloMosaic Idealize.ShloMosaic.ValueIdx

/-- The byte of the fp8 number the low nibble of `b` becomes: bit 3 to the sign, bits 0 to 2 to bits 2 to 4. -/
def loByte (b : BitVec 8) : BitVec 8 := ((b <<< 4) &&& 0x80#8) ||| ((b <<< 2) &&& 0x1c#8)

/-- The byte of the fp8 number the high nibble of `b` becomes. -/
def hiByte (b : BitVec 8) : BitVec 8 := (b &&& 0x80#8) ||| ((b >>> 2) &&& 0x1c#8)

/-- The kernel's word operations on four packed bytes, for the low nibbles. -/
def loWord (w : BitVec 32) : BitVec 32 := ((w <<< 4) &&& 2155905152#32) ||| ((w <<< 2) &&& 471604252#32)

/-- The kernel's word operations on four packed bytes, for the high nibbles. -/
def hiWord (w : BitVec 32) : BitVec 32 := (w &&& 2155905152#32) ||| ((w >>> 2) &&& 471604252#32)

/-- Bit `q` of the low-nibble word is bit `q % 8` of the byte function at byte `q / 8` of the word. -/
theorem loWord_bit (w : BitVec 32) (q : Nat) (hq : q < 32) :
    (loWord w).getLsbD q = (loByte (w.extractLsb' (8 * (q / 8)) 8)).getLsbD (q % 8) := by
  unfold loWord loByte
  interval_cases q <;> simp [BitVec.getLsbD_extractLsb', BitVec.getLsbD_shiftLeft]

/-- The same of the high-nibble word. -/
theorem hiWord_bit (w : BitVec 32) (q : Nat) (hq : q < 32) :
    (hiWord w).getLsbD q = (hiByte (w.extractLsb' (8 * (q / 8)) 8)).getLsbD (q % 8) := by
  unfold hiWord hiByte
  interval_cases q <;> simp [BitVec.getLsbD_extractLsb', BitVec.getLsbD_ushiftRight]

/-- A word operation `W` that acts as `B` on each of the four bytes, between the two reinterpretations of a 32×128 tile of
    bytes, is `B` element by element. -/
theorem perByte (W : BitVec 32 → BitVec 32) (B : BitVec 8 → BitVec 8)
    (hW : ∀ (w : BitVec 32) (q : Nat), q < 32 → (W w).getLsbD q = (B (w.extractLsb' (8 * (q / 8)) 8)).getLsbD (q % 8))
    (x : (⟨2, ![32, 128]⟩ : Shape).Idx → BitVec 8)
    (h : (⟨2, ![32, 128]⟩ : Shape).Bitcasts 8 ⟨2, ![8, 128]⟩ 32) (h' : (⟨2, ![8, 128]⟩ : Shape).Bitcasts 32 ⟨2, ![32, 128]⟩ 8)
    (y : (⟨2, ![8, 128]⟩ : Shape).Idx → BitVec 32) (hy : ∀ j, y j = W (bitcast ⟨2, ![8, 128]⟩ 32 x h j))
    (i : (⟨2, ![32, 128]⟩ : Shape).Idx) :
    bitcast ⟨2, ![32, 128]⟩ 8 y h' i = B (x i) := by
  obtain ⟨a, l, rfl⟩ : ∃ (a : Fin 32) (l : Fin 128), i = ix2 a l := ⟨i 0, i 1, eq_ix2 i⟩
  apply BitVec.eq_of_getLsbD_eq
  intro p hp
  have ha := a.isLt
  have hsrc : ∀ (n : Nat) (hn), n = (a.val * 8 + p) / 32 → h'.srcIdx (ix2 a l) n hn = ix2 (⟨a.val / 4, by omega⟩ : Fin 8) l := by
    intro n hn e
    funext c
    match c with
    | ⟨0, _⟩ => exact Fin.ext ((h'.srcIdx_row _ _ _ ⟨0, Nat.zero_lt_two⟩ rfl).trans (by show n = a.val / 4; omega))
    | ⟨1, _⟩ => exact Fin.ext (h'.srcIdx_other _ _ _ ⟨1, Nat.one_lt_two⟩ (by show ¬ 1 + 2 = 2; omega))
  rw [bitcast_getLsbD y h' _ p hp (by decide), hy, hW _ _ (Nat.mod_lt _ (by decide)),
    hsrc (((⟨2, ![32, 128]⟩ : Shape).row (ix2 a l) * 8 + p) / 32) _ rfl]
  show (B (BitVec.extractLsb' (8 * ((a.val * 8 + p) % 32 / 8)) 8 _)).getLsbD ((a.val * 8 + p) % 32 % 8) = _
  have e1 : (a.val * 8 + p) % 32 % 8 = p := by omega
  rw [e1]
  congr 2
  apply BitVec.eq_of_getLsbD_eq
  intro k hk
  rw [BitVec.getLsbD_extractLsb',
    bitcast_8_32_getLsbD_ix2 x h _ l _ (by omega) a (by show a.val = 4 * (a.val / 4) + _; omega)]
  have e2 : (8 * ((a.val * 8 + p) % 32 / 8) + k) % 8 = k := by omega
  rw [e2]
  simp [hk]

/-- The value of the e2m1 code whose bits are `b3 b2 b1 b0`: a sign and the magnitudes 0, 1/2, 1, 3/2, 2, 3, 4, 6. -/
def e2m1 (b3 b2 b1 b0 : Bool) : ℝ :=
  (if b3 then -1 else 1) *
    (if b2 then (if b1 then (if b0 then 6 else 4) else (if b0 then 3 else 2))
      else (if b1 then (if b0 then 3 / 2 else 1) else (if b0 then 1 / 2 else 0)))

/-- The value of the low nibble of a code byte. -/
def loVal (b : BitVec 8) : ℝ := e2m1 (b.getLsbD 3) (b.getLsbD 2) (b.getLsbD 1) (b.getLsbD 0)

/-- The value of the high nibble of a code byte. -/
def hiVal (b : BitVec 8) : ℝ := e2m1 (b.getLsbD 7) (b.getLsbD 6) (b.getLsbD 5) (b.getLsbD 4)

/-- The byte with a sign, two exponent bits and a mantissa bit at the places the kernel moves them to. -/
def place (b3 b2 b1 b0 : Bool) : BitVec 8 :=
  (if b3 then 0x80#8 else 0#8) ||| (if b2 then 0x10#8 else 0#8) ||| (if b1 then 0x08#8 else 0#8) ||| (if b0 then 0x04#8 else 0#8)

/-- The low pattern's byte has the nibble's bits in the places of an fp8 number. -/
theorem loByte_eq (b : BitVec 8) : loByte b = place (b.getLsbD 3) (b.getLsbD 2) (b.getLsbD 1) (b.getLsbD 0) := by
  revert b; decide

/-- The high pattern's byte has the nibble's bits in the places of an fp8 number. -/
theorem hiByte_eq (b : BitVec 8) : hiByte b = place (b.getLsbD 7) (b.getLsbD 6) (b.getLsbD 5) (b.getLsbD 4) := by
  revert b; decide

/-- Read as an fp8 number, those bits are the e2m1 value over 64. -/
theorem place_value (b3 b2 b1 b0 : Bool) :
    Ideal.ofBits .fp8e4m3 (place b3 b2 b1 b0) = ((e2m1 b3 b2 b1 b0 / 64 : ℝ) : EReal) := by
  cases b3 <;> cases b2 <;> cases b1 <;> cases b0 <;>
    · unfold place e2m1
      simp [Ideal.ofBits, Ideal.e4m3fn, BitVec.extractLsb', BitVec.toNat_ofNat, -EReal.coe_mul]
      try norm_num

/-- What the kernel reads of a low nibble: its value over 64. -/
theorem lo_value (b : BitVec 8) : Ideal.ofBits .fp8e4m3 (loByte b) = ((loVal b / 64 : ℝ) : EReal) := by
  rw [loByte_eq, place_value]; rfl

/-- What the kernel reads of a high nibble: its value over 64. -/
theorem hi_value (b : BitVec 8) : Ideal.ofBits .fp8e4m3 (hiByte b) = ((hiVal b / 64 : ℝ) : EReal) := by
  rw [hiByte_eq, place_value]; rfl

end Cert.Codes
-- ==== Proof.Decode.lean ====
/-
  Hand-written, untrusted. One 32×128 chunk of the kernel's decoding, at an index: the kernel loads a chunk of code bytes and
  the 128 block scales that hold the chunk's, spreads each of sixteen scales over eight lanes (`spread_apply`), turns the bytes
  into fp8 numbers (`Codes.perByte`) and multiplies. `piece_lo` and `piece_hi` say of one such chunk, stored at `o3`, that it is
  the restriction to its place of ONE function of the whole decoded array, `dec`.
-/
module

public import proofs.«01_k».proof.Proof.Codes
public import proofs.«01_k».proof.KernelIdeal
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.KernelIdeal.Decode

open Idealize.ShloMosaic Idealize.ShloMosaic.TcCoe Idealize.SL.Sem Idealize.ShloMosaic.ValueIdx
open Cert.KernelIdeal Cert.Codes

/-- The decoded array of `R` rows: in its left half the low nibbles, in its right half the high nibbles, of the code bytes,
    each times the scale of its block of eight bytes. -/
def dec {R : Nat} (cd : (⟨2, ![R, 2048]⟩ : Shape).Idx → BitVec 8) (sc : (⟨2, ![R, 256]⟩ : Shape).Idx → EReal) :
    (⟨2, ![R, 4096]⟩ : Shape).Idx → EReal := fun j =>
  if h : (j 1).val < 2048 then
    Ideal.ofBits .fp8e4m3 (loByte (cd (ix2 (j 0) ⟨(j 1).val, h⟩))) * sc (ix2 (j 0) (⟨(j 1).val / 8, by omega⟩ : Fin 256))
  else
    Ideal.ofBits .fp8e4m3 (hiByte (cd (ix2 (j 0) (⟨(j 1).val - 2048, by have := (j 1).isLt; change _ < 4096 at this; omega⟩ : Fin 2048))))
      * sc (ix2 (j 0) (⟨((j 1).val - 2048) / 8, by have := (j 1).isLt; change _ < 4096 at this; omega⟩ : Fin 256))

/-- A word below 2^31 is not negative, so the guard for a negative index takes the word itself. -/
theorem guard_word (w x : BitVec 32) (hw : w.toNat < 2 ^ 31) : Scalar.select (IntOp.cmpi .slt w 0#32) x w = w := by
  have h : w.slt 0#32 = false := by
    rw [BitVec.slt_eq_decide, decide_eq_false_iff_not, BitVec.toInt_eq_toNat_of_lt (by omega)]
    simp
  show (if IntOp.cmpi .slt w 0#32 = 1#1 then x else w) = w
  rw [show IntOp.cmpi .slt w 0#32 = 0#1 from congrArg BitVec.ofBool h]
  rfl

/-- The lane number over eight plus the chunk's phase, as a number. -/
theorem lane_toNat (p : BitVec 32) (hp : p.toNat ≤ 112) (l : Nat) (hl : l < 128) :
    (IntOp.addi (IntOp.shrui .vector (BitVec.ofNat 32 l) 3#32) p).toNat = l / 8 + p.toNat := by
  have e : IntOp.shrui .vector (BitVec.ofNat 32 l) 3#32 = BitVec.ofNat 32 l >>> 3#32 := if_pos (by decide)
  rw [e]
  show (BitVec.ofNat 32 l >>> 3#32 + p).toNat = _
  rw [BitVec.toNat_add, BitVec.ushiftRight_eq', BitVec.toNat_ushiftRight, BitVec.toNat_ofNat,
    show (3#32).toNat = 3 from rfl, Nat.shiftRight_eq_div_pow]
  omega

/-- Each of the sixteen scales from lane `p` on, spread over eight lanes, as the kernel spells it: a gather along the lanes at the
    lane number over eight plus `p`, with its guard for a negative index. -/
abbrev spread (p : BitVec 32) (v : FVec Ideal S32x128 .f32) (hi : S32x128.Iotas .tc 32 [1])
    (h : S32x128.ShapeCasts S32x128x1) (h' : S32x128x1.ShapeCasts S32x128) : FVec Ideal S32x128 .f32 :=
  dynamicGather 1 v (shapeCast S32x128 (shapeCast S32x128x1
    (select (cmpi .slt (addi (shrui (iota .tc S32x128 32 [1] hi) (broadcast S32x128 3#32)) (broadcast S32x128 p)) (broadcast S32x128 0#32))
      (addi (addi (shrui (iota .tc S32x128 32 [1] hi) (broadcast S32x128 3#32)) (broadcast S32x128 p)) (broadcast S32x128 128#32))
      (addi (shrui (iota .tc S32x128 32 [1] hi) (broadcast S32x128 3#32)) (broadcast S32x128 p))) h) h')

/-- The spread at an index. -/
theorem spread_apply (p : BitVec 32) (hp : p.toNat ≤ 112) (v : FVec Ideal S32x128 .f32) (hi : S32x128.Iotas .tc 32 [1])
    (h : S32x128.ShapeCasts S32x128x1) (h' : S32x128x1.ShapeCasts S32x128) (y : S32x128.Idx) :
    spread p v hi h h' y
      = v (ix2 (y 0) (⟨(y 1).val / 8 + p.toNat, by have := (y 1).isLt; change _ < 128 at this; omega⟩ : Fin 128)) := by
  have hl : (y 1).val < 128 := (y 1).isLt
  have e := lane_toNat p hp (y 1).val hl
  unfold spread
  rw [shapeCast_shapeCast]
  refine congrArg v (funext fun b => ?_)
  match b with
  | ⟨0, _⟩ => rfl
  | ⟨1, _⟩ =>
    refine Fin.ext ?_
    show (Scalar.select (IntOp.cmpi .slt (IntOp.addi (IntOp.shrui .vector (BitVec.ofNat 32 (0 * 128 + (y 1).val)) 3#32) p) 0#32) _
      (IntOp.addi (IntOp.shrui .vector (BitVec.ofNat 32 (0 * 128 + (y 1).val)) 3#32) p)).toNat % 128 = (y 1).val / 8 + p.toNat
    rw [Nat.zero_mul, Nat.zero_add, guard_word _ _ (by rw [e]; omega), e]
    omega

/-- The low nibbles of a chunk as fp8 numbers, as the kernel computes them. -/
abbrev lo (v : S32x128.Idx → BitVec 8) (h : S32x128.Bitcasts 8 S8x128 32) (h' : S8x128.Bitcasts 32 S32x128 8) : FVec Ideal S32x128 .fp8e4m3 :=
  bitcastToFloat (F := Ideal) .fp8e4m3 (bitcast S32x128 8
    (ori (andi (shli (bitcast S8x128 32 v h) (broadcast S8x128 4#32)) (broadcast S8x128 2155905152#32))
      (andi (shli (bitcast S8x128 32 v h) (broadcast S8x128 2#32)) (broadcast S8x128 471604252#32))) h')

/-- The high nibbles. -/
abbrev hi (v : S32x128.Idx → BitVec 8) (h : S32x128.Bitcasts 8 S8x128 32) (h' : S8x128.Bitcasts 32 S32x128 8) : FVec Ideal S32x128 .fp8e4m3 :=
  bitcastToFloat (F := Ideal) .fp8e4m3 (bitcast S32x128 8
    (ori (andi (bitcast S8x128 32 v h) (broadcast S8x128 2155905152#32))
      (andi (shrui (bitcast S8x128 32 v h) (broadcast S8x128 2#32)) (broadcast S8x128 471604252#32))) h')

/-- The words' low pattern, read back as bytes, is each byte's own low pattern. -/
theorem lo_apply (v : S32x128.Idx → BitVec 8) (h : S32x128.Bitcasts 8 S8x128 32) (h' : S8x128.Bitcasts 32 S32x128 8) (y : S32x128.Idx) :
    lo v h h' y = Ideal.ofBits .fp8e4m3 (loByte (v y)) :=
  congrArg (Ideal.ofBits .fp8e4m3) (perByte loWord loByte loWord_bit v h h' _ (fun _ => rfl) y)

/-- The words' high pattern, read back as bytes, is each byte's own high pattern. -/
theorem hi_apply (v : S32x128.Idx → BitVec 8) (h : S32x128.Bitcasts 8 S8x128 32) (h' : S8x128.Bitcasts 32 S32x128 8) (y : S32x128.Idx) :
    hi v h h' y = Ideal.ofBits .fp8e4m3 (hiByte (v y)) :=
  congrArg (Ideal.ofBits .fp8e4m3) (perByte hiWord hiByte hiWord_bit v h h' _ (fun _ => rfl) y)

/-- Where a chunk stored at `o3` sits, for low nibbles: `dec` there is the low nibble of the code at `o2`, times the scale at the
    lane over eight, plus `p`, behind `o1`. -/
theorem dec_lo {R : Nat} (cd : (⟨2, ![R, 2048]⟩ : Shape).Idx → BitVec 8) (sc : (⟨2, ![R, 256]⟩ : Shape).Idx → EReal)
    (o1 o2 o3 : Fin 2 → Nat) (i1 i2 i3) (p : Nat) (hp : p ≤ 112) (e1 : o1 0 = o3 0) (e2 : o2 = o3) (e3 : o3 1 = 8 * (o1 1 + p))
    (h : o3 1 + 128 ≤ 2048) (y : S32x128.Idx) :
    dec cd sc ((Rect.unit (s := ⟨2, ![R, 4096]⟩) o3 S32x128.size i3).emb y)
      = Ideal.ofBits .fp8e4m3 (loByte (cd ((Rect.unit (s := ⟨2, ![R, 2048]⟩) o2 S32x128.size i2).idx y)))
        * sc ((Rect.unit (s := ⟨2, ![R, 256]⟩) o1 S32x128.size i1).idx
            (ix2 (y 0) (⟨(y 1).val / 8 + p, by have := (y 1).isLt; change _ < 128 at this; omega⟩ : Fin 128))) := by
  have hl : (y 1).val < 128 := (y 1).isLt
  have v0 : ((Rect.unit (s := ⟨2, ![R, 4096]⟩) o3 S32x128.size i3).emb y 0).val = o3 0 + (y 0).val := by
    show o3 0 + 1 * (y 0).val = _; omega
  have v1 : ((Rect.unit (s := ⟨2, ![R, 4096]⟩) o3 S32x128.size i3).emb y 1).val = o3 1 + (y 1).val := by
    show o3 1 + 1 * (y 1).val = _; omega
  subst e2
  unfold dec
  rw [dif_pos (by omega)]
  refine congrArg₂ (fun b s => Ideal.ofBits .fp8e4m3 (loByte b) * s) (congrArg cd (funext fun b => Fin.ext ?_))
    (congrArg sc (funext fun b => Fin.ext ?_))
  · rw [Rect.idx_unit_val]
    match b with
    | ⟨0, _⟩ => exact v0
    | ⟨1, _⟩ => exact v1
  · rw [Rect.idx_unit_val]
    match b with
    | ⟨0, _⟩ => exact v0.trans (by rw [← e1]; rfl)
    | ⟨1, _⟩ => show (_ : Nat) / 8 = o1 1 + ((y 1).val / 8 + p); rw [v1]; omega

/-- The same for high nibbles, stored 2048 columns to the right of their codes. -/
theorem dec_hi {R : Nat} (cd : (⟨2, ![R, 2048]⟩ : Shape).Idx → BitVec 8) (sc : (⟨2, ![R, 256]⟩ : Shape).Idx → EReal)
    (o1 o2 o3 : Fin 2 → Nat) (i1 i2 i3) (p : Nat) (hp : p ≤ 112) (e1 : o1 0 = o3 0) (e2 : o2 0 = o3 0) (e2' : o3 1 = o2 1 + 2048)
    (e3 : o2 1 = 8 * (o1 1 + p)) (y : S32x128.Idx) :
    dec cd sc ((Rect.unit (s := ⟨2, ![R, 4096]⟩) o3 S32x128.size i3).emb y)
      = Ideal.ofBits .fp8e4m3 (hiByte (cd ((Rect.unit (s := ⟨2, ![R, 2048]⟩) o2 S32x128.size i2).idx y)))
        * sc ((Rect.unit (s := ⟨2, ![R, 256]⟩) o1 S32x128.size i1).idx
            (ix2 (y 0) (⟨(y 1).val / 8 + p, by have := (y 1).isLt; change _ < 128 at this; omega⟩ : Fin 128))) := by
  have hl : (y 1).val < 128 := (y 1).isLt
  have v0 : ((Rect.unit (s := ⟨2, ![R, 4096]⟩) o3 S32x128.size i3).emb y 0).val = o3 0 + (y 0).val := by
    show o3 0 + 1 * (y 0).val = _; omega
  have v1 : ((Rect.unit (s := ⟨2, ![R, 4096]⟩) o3 S32x128.size i3).emb y 1).val = o3 1 + (y 1).val := by
    show o3 1 + 1 * (y 1).val = _; omega
  unfold dec
  rw [dif_neg (by omega)]
  refine congrArg₂ (fun b s => Ideal.ofBits .fp8e4m3 (hiByte b) * s) (congrArg cd (funext fun b => Fin.ext ?_))
    (congrArg sc (funext fun b => Fin.ext ?_))
  · rw [Rect.idx_unit_val]
    match b with
    | ⟨0, _⟩ => exact v0.trans (by rw [← e2]; rfl)
    | ⟨1, _⟩ => show (_ : Nat) - 2048 = o2 1 + (y 1).val; rw [v1]; omega
  · rw [Rect.idx_unit_val]
    match b with
    | ⟨0, _⟩ => exact v0.trans (by rw [← e1]; rfl)
    | ⟨1, _⟩ => show ((_ : Nat) - 2048) / 8 = o1 1 + ((y 1).val / 8 + p); rw [v1]; omega

section
variable {R : Nat} (cd : (⟨2, ![R, 2048]⟩ : Shape).Idx → BitVec 8) (sc : (⟨2, ![R, 256]⟩ : Shape).Idx → EReal)
  {o1 o2 o3 : Fin 2 → Nat} {i1 : ∀ a, o1 a + S32x128.size a ≤ (⟨2, ![R, 256]⟩ : Shape).size a}
  {i2 : ∀ a, o2 a + S32x128.size a ≤ (⟨2, ![R, 2048]⟩ : Shape).size a} {i3 : ∀ a, o3 a + S32x128.size a ≤ (⟨2, ![R, 4096]⟩ : Shape).size a}
  (p : BitVec 32) {hio : S32x128.Iotas .tc 32 [1]} {hs : S32x128.ShapeCasts S32x128x1} {hs' : S32x128x1.ShapeCasts S32x128}
  {hb : S32x128.Bitcasts 8 S8x128 32} {hb' : S8x128.Bitcasts 32 S32x128 8} {q1 : FTy.bits .fp8e4m3 < FTy.bits .bf16}
  {q2 : FTy.bits .fp8e4m3 < FTy.bits .f32} {q3 : FTy.bits .bf16 < FTy.bits .f32} (y : S32x128.Idx)

/-- A chunk of low nibbles of the activations: the fp8 numbers times the spread scales, stored at `o3`. -/
theorem x_lo (hp : p.toNat ≤ 112) (e1 : o1 0 = o3 0) (e2 : o2 = o3) (e3 : o3 1 = 8 * (o1 1 + p.toNat)) (h : o3 1 + 128 ≤ 2048) :
    mulf (F := Ideal) (φ := .bf16) (extf .bf16 (lo (View.ld (Val := Elt Ideal) (e' := .i8) (S := ⟨2, ![R, 2048]⟩) cd (Rect.unit o2 S32x128.size i2)) hb hb') q1)
      (truncf .bf16 (spread p (extf .f32 (View.ld (Val := Elt Ideal) (e' := .fp8e4m3) (S := ⟨2, ![R, 256]⟩) sc (Rect.unit o1 S32x128.size i1)) q2) hio hs hs') q3) y
    = dec cd sc ((Rect.unit (s := ⟨2, ![R, 4096]⟩) o3 S32x128.size i3).emb y) := by
  rw [dec_lo cd sc o1 o2 o3 i1 i2 i3 p.toNat hp e1 e2 e3 h y]
  exact congrArg₂ (fun a b : EReal => a * b) (lo_apply _ hb hb' y) (spread_apply p hp
    (extf .f32 (View.ld (Val := Elt Ideal) (e' := .fp8e4m3) (S := ⟨2, ![R, 256]⟩) sc (Rect.unit o1 S32x128.size i1)) q2) hio hs hs' y)

/-- A chunk of high nibbles of the activations. -/
theorem x_hi (hp : p.toNat ≤ 112) (e1 : o1 0 = o3 0) (e2 : o2 0 = o3 0) (e2' : o3 1 = o2 1 + 2048) (e3 : o2 1 = 8 * (o1 1 + p.toNat)) :
    mulf (F := Ideal) (φ := .bf16) (extf .bf16 (hi (View.ld (Val := Elt Ideal) (e' := .i8) (S := ⟨2, ![R, 2048]⟩) cd (Rect.unit o2 S32x128.size i2)) hb hb') q1)
      (truncf .bf16 (spread p (extf .f32 (View.ld (Val := Elt Ideal) (e' := .fp8e4m3) (S := ⟨2, ![R, 256]⟩) sc (Rect.unit o1 S32x128.size i1)) q2) hio hs hs') q3) y
    = dec cd sc ((Rect.unit (s := ⟨2, ![R, 4096]⟩) o3 S32x128.size i3).emb y) := by
  rw [dec_hi cd sc o1 o2 o3 i1 i2 i3 p.toNat hp e1 e2 e2' e3 y]
  exact congrArg₂ (fun a b : EReal => a * b) (hi_apply _ hb hb' y) (spread_apply p hp
    (extf .f32 (View.ld (Val := Elt Ideal) (e' := .fp8e4m3) (S := ⟨2, ![R, 256]⟩) sc (Rect.unit o1 S32x128.size i1)) q2) hio hs hs' y)

/-- A chunk of low nibbles of the weights: the spread scales are multiplied by `g` first. -/
theorem w_lo (g : EReal) (hp : p.toNat ≤ 112) (e1 : o1 0 = o3 0) (e2 : o2 = o3) (e3 : o3 1 = 8 * (o1 1 + p.toNat)) (h : o3 1 + 128 ≤ 2048) :
    mulf (F := Ideal) (φ := .bf16) (extf .bf16 (lo (View.ld (Val := Elt Ideal) (e' := .i8) (S := ⟨2, ![R, 2048]⟩) cd (Rect.unit o2 S32x128.size i2)) hb hb') q1)
      (mulf (F := Ideal) (φ := .bf16)
        (truncf .bf16 (spread p (extf .f32 (View.ld (Val := Elt Ideal) (e' := .fp8e4m3) (S := ⟨2, ![R, 256]⟩) sc (Rect.unit o1 S32x128.size i1)) q2) hio hs hs') q3)
        (broadcast S32x128 g)) y
    = dec cd (fun j => sc j * g) ((Rect.unit (s := ⟨2, ![R, 4096]⟩) o3 S32x128.size i3).emb y) := by
  rw [dec_lo cd _ o1 o2 o3 i1 i2 i3 p.toNat hp e1 e2 e3 h y]
  exact congrArg₂ (fun a b : EReal => a * b) (lo_apply _ hb hb' y) (congrArg (fun a : EReal => a * g) (spread_apply p hp
    (extf .f32 (View.ld (Val := Elt Ideal) (e' := .fp8e4m3) (S := ⟨2, ![R, 256]⟩) sc (Rect.unit o1 S32x128.size i1)) q2) hio hs hs' y))

/-- A chunk of high nibbles of the weights. -/
theorem w_hi (g : EReal) (hp : p.toNat ≤ 112) (e1 : o1 0 = o3 0) (e2 : o2 0 = o3 0) (e2' : o3 1 = o2 1 + 2048) (e3 : o2 1 = 8 * (o1 1 + p.toNat)) :
    mulf (F := Ideal) (φ := .bf16) (extf .bf16 (hi (View.ld (Val := Elt Ideal) (e' := .i8) (S := ⟨2, ![R, 2048]⟩) cd (Rect.unit o2 S32x128.size i2)) hb hb') q1)
      (mulf (F := Ideal) (φ := .bf16)
        (truncf .bf16 (spread p (extf .f32 (View.ld (Val := Elt Ideal) (e' := .fp8e4m3) (S := ⟨2, ![R, 256]⟩) sc (Rect.unit o1 S32x128.size i1)) q2) hio hs hs') q3)
        (broadcast S32x128 g)) y
    = dec cd (fun j => sc j * g) ((Rect.unit (s := ⟨2, ![R, 4096]⟩) o3 S32x128.size i3).emb y) := by
  rw [dec_hi cd _ o1 o2 o3 i1 i2 i3 p.toNat hp e1 e2 e2' e3 y]
  exact congrArg₂ (fun a b : EReal => a * b) (hi_apply _ hb hb' y) (congrArg (fun a : EReal => a * g) (spread_apply p hp
    (extf .f32 (View.ld (Val := Elt Ideal) (e' := .fp8e4m3) (S := ⟨2, ![R, 256]⟩) sc (Rect.unit o1 S32x128.size i1)) q2) hio hs hs' y))

end

end Cert.KernelIdeal.Decode
-- ==== Proof.Trips.lean ====
/-
  Hand-written, untrusted. The two decoding loops. Each trip decodes 32 rows of the packed array into 32 chunks; every chunk is a
  piece of ONE array, `dec` of the codes and scales (`trip_w`, `trip_x`), so the pieces of all trips are (`pieces_w`, `pieces_x`).
-/
module

public import proofs.«01_k».proof.Proof.Gen.KernelIdeal.Loops
public import proofs.«01_k».proof.Proof.Decode

@[expose] public section

set_option maxRecDepth 16384

noncomputable section

namespace Cert.KernelIdeal.Decode

open Idealize.ShloMosaic Idealize.ShloMosaic.TcCoe Idealize.SL.Sem Idealize.ShloMosaic.ValueIdx
open Cert.KernelIdeal Cert.KernelIdeal.Gen

variable (c : Dev nD) (i : grid0.Coords)
  (arg1 : Memref sig .tc .smem S8 .i32) (harg1 : arg1.IsWhole)
  (arg2 : Memref sig .tc .smem S8 .f32) (harg2 : arg2.IsWhole)
  (arg3 : Memref sig .tc .smem S1 .f32) (harg3 : arg3.IsWhole)
  (arg4 : Memref sig .tc .vmem S512x2048 .i8) (harg4 : arg4.IsWhole)
  (arg5 : Memref sig .tc .vmem S512x256 .fp8e4m3) (harg5 : arg5.IsWhole)
  (arg6 : Memref sig .tc .vmem S3584x2048 .i8) (harg6 : arg6.IsWhole)
  (arg7 : Memref sig .tc .vmem S3584x256 .fp8e4m3) (harg7 : arg7.IsWhole)
  (arg8 : Memref sig .tc .vmem S512x3584 .bf16) (harg8 : arg8.IsWhole)
  (arg9 : Memref sig .tc .vmem S3584x4096 .bf16) (harg9 : arg9.IsWhole)
  (arg10 : Memref sig .tc .vmem S512x4096 .bf16) (harg10 : arg10.IsWhole)

/-- The gain the kernel multiplies the weight scales by. -/
abbrev gain : EReal := Ideal.ofBits .bf16 0x4580#16

/-- One trip of the weight loop stores chunks of the decoded weights. -/
theorem trip_w (h1 : k0_cond1 i = 1#1) (X6 : BufTy.Contents (Elt Ideal) arg6.view.ty) (X7 : BufTy.Contents (Elt Ideal) arg7.view.ty)
    (k : Fin k0_t1_loop.trips) :
    ∀ pc ∈ tripL_k0_t1 (F := Ideal) Variants.none c none i arg1 harg1 arg2 harg2 arg3 harg3 arg4 harg4 arg5 harg5 arg6 harg6 arg7 harg7 arg8 harg8 arg9 harg9 arg10 harg10 h1 X6 X7 k,
      ∀ y, pc.2 y = dec (R := 3584) (arg6.view.read (Elt Ideal) X6) (fun j => arg7.view.read (Elt Ideal) X7 j * gain) (pc.1.emb y) := by
  unfold tripL_k0_t1 trip_k0_t1
  dsimp only
  sl_unfold_run_names
  simp only [List.forall_mem_cons, View.readAt_eq_ld]
  simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay218, shapeCast_self]
  iterate 16
    refine ⟨fun y => w_hi _ _ _ y _ (by decide) rfl rfl rfl rfl, ?_⟩
    refine ⟨fun y => w_lo _ _ _ y _ (by decide) rfl rfl rfl (Nat.le_of_ble_eq_true rfl), ?_⟩
  exact fun _ h => absurd h List.not_mem_nil

/-- One trip of the activation loop stores chunks of the decoded block of activations. -/
theorem trip_x (X4 : BufTy.Contents (Elt Ideal) arg4.view.ty) (X5 : BufTy.Contents (Elt Ideal) arg5.view.ty)
    (k : Fin k0_t2_loop.trips) :
    ∀ pc ∈ tripL_k0_t2 (F := Ideal) Variants.none c none i arg1 harg1 arg2 harg2 arg3 harg3 arg4 harg4 arg5 harg5 arg6 harg6 arg7 harg7 arg8 harg8 arg9 harg9 arg10 harg10 X4 X5 k,
      ∀ y, pc.2 y = dec (R := 512) (arg4.view.read (Elt Ideal) X4) (arg5.view.read (Elt Ideal) X5) (pc.1.emb y) := by
  unfold tripL_k0_t2 trip_k0_t2
  dsimp only
  sl_unfold_run_names
  simp only [List.forall_mem_cons, View.readAt_eq_ld]
  simp only [k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, shapeCast_self]
  iterate 16
    refine ⟨fun y => x_hi _ _ _ y (by decide) rfl rfl rfl rfl, ?_⟩
    refine ⟨fun y => x_lo _ _ _ y (by decide) rfl rfl rfl (Nat.le_of_ble_eq_true rfl), ?_⟩
  exact fun _ h => absurd h List.not_mem_nil

/-- So do all trips of the weight loop before the `n`-th. -/
theorem pieces_w (h1 : k0_cond1 i = 1#1) (X6 : BufTy.Contents (Elt Ideal) arg6.view.ty) (X7 : BufTy.Contents (Elt Ideal) arg7.view.ty) :
    ∀ n ≤ k0_t1_loop.trips, ∀ pc ∈ pb_k0_t1 (F := Ideal) Variants.none c none i arg1 harg1 arg2 harg2 arg3 harg3 arg4 harg4 arg5 harg5 arg6 harg6 arg7 harg7 arg8 harg8 arg9 harg9 arg10 harg10 h1 X6 X7 n,
      ∀ y, pc.2 y = dec (R := 3584) (arg6.view.read (Elt Ideal) X6) (fun j => arg7.view.read (Elt Ideal) X7 j * gain) (pc.1.emb y)
  | 0, _ => fun _ h => absurd (by rwa [pb_k0_t1.eq_1] at h) List.not_mem_nil
  | n + 1, hn => by
    rw [pb_k0_t1_succ (F := Ideal) Variants.none c none i arg1 harg1 arg2 harg2 arg3 harg3 arg4 harg4 arg5 harg5 arg6 harg6 arg7 harg7 arg8 harg8 arg9 harg9 arg10 harg10 h1 X6 X7 ⟨n, hn⟩]
    intro pc hpc
    rcases List.mem_append.mp hpc with h | h
    · exact trip_w c i arg1 harg1 arg2 harg2 arg3 harg3 arg4 harg4 arg5 harg5 arg6 harg6 arg7 harg7 arg8 harg8 arg9 harg9 arg10 harg10 h1 X6 X7 _ pc h
    · exact pieces_w h1 X6 X7 n (by omega) pc h

/-- And all trips of the activation loop. -/
theorem pieces_x (X4 : BufTy.Contents (Elt Ideal) arg4.view.ty) (X5 : BufTy.Contents (Elt Ideal) arg5.view.ty) :
    ∀ n ≤ k0_t2_loop.trips, ∀ pc ∈ pb_k0_t2 (F := Ideal) Variants.none c none i arg1 harg1 arg2 harg2 arg3 harg3 arg4 harg4 arg5 harg5 arg6 harg6 arg7 harg7 arg8 harg8 arg9 harg9 arg10 harg10 X4 X5 n,
      ∀ y, pc.2 y = dec (R := 512) (arg4.view.read (Elt Ideal) X4) (arg5.view.read (Elt Ideal) X5) (pc.1.emb y)
  | 0, _ => fun _ h => absurd (by rwa [pb_k0_t2.eq_1] at h) List.not_mem_nil
  | n + 1, hn => by
    rw [pb_k0_t2_succ (F := Ideal) Variants.none c none i arg1 harg1 arg2 harg2 arg3 harg3 arg4 harg4 arg5 harg5 arg6 harg6 arg7 harg7 arg8 harg8 arg9 harg9 arg10 harg10 X4 X5 ⟨n, hn⟩]
    intro pc hpc
    rcases List.mem_append.mp hpc with h | h
    · exact trip_x c i arg1 harg1 arg2 harg2 arg3 harg3 arg4 harg4 arg5 harg5 arg6 harg6 arg7 harg7 arg8 harg8 arg9 harg9 arg10 harg10 X4 X5 _ pc h
    · exact pieces_x X4 X5 n (by omega) pc h

end Cert.KernelIdeal.Decode
-- ==== Proof.Block.lean ====
/-
  Hand-written, untrusted. What one grid point leaves in the output block: 28 stored pieces of 128 columns, all of ONE array, `block`:
  the product of the decoded activations and the decoded weights, times the row's gain, times the weights' gain.
-/
module

public import proofs.«01_k».proof.Proof.Gen.KernelIdeal.Value
public import proofs.«01_k».proof.Proof.Trips
public import Idealize.ShloMosaic.Lib.MatmulPlain

@[expose] public section

set_option maxRecDepth 16384

noncomputable section

namespace Cert.KernelIdeal.Decode

open Idealize.ShloMosaic Idealize.ShloMosaic.TcCoe Idealize.SL.Sem Idealize.ShloMosaic.ValueIdx
open Cert.KernelIdeal Cert.KernelIdeal.Gen

/-- The gain of a row: that of the LAST segment which starts at or before the row, segment 0 when no later one does. -/
def pick (r : BitVec 32) (g0 : EReal) (s1 : BitVec 32) (g1 : EReal) (s2 : BitVec 32) (g2 : EReal) (s3 : BitVec 32) (g3 : EReal)
    (s4 : BitVec 32) (g4 : EReal) (s5 : BitVec 32) (g5 : EReal) (s6 : BitVec 32) (g6 : EReal) (s7 : BitVec 32) (g7 : EReal) : EReal :=
  Scalar.select (IntOp.cmpi .sge r s7) g7 (Scalar.select (IntOp.cmpi .sge r s6) g6 (Scalar.select (IntOp.cmpi .sge r s5) g5
    (Scalar.select (IntOp.cmpi .sge r s4) g4 (Scalar.select (IntOp.cmpi .sge r s3) g3 (Scalar.select (IntOp.cmpi .sge r s2) g2
      (Scalar.select (IntOp.cmpi .sge r s1) g1 g0))))))

/-- The number of row `a` of the block of grid point `i`, as the kernel computes it. -/
def rowWord (i : grid0.Coords) (a : Fin 512) : BitVec 32 := BitVec.ofNat 32 a.val + BitVec.ofNat 32 (i 0).val * 512#32

/-- The kernel's array of row gains holds, at each element, the gain of its row. -/
theorem gains_apply (i : grid0.Coords) (g0 : EReal) (s1 : BitVec 32) (g1 : EReal) (s2 : BitVec 32) (g2 : EReal) (s3 : BitVec 32) (g3 : EReal)
    (s4 : BitVec 32) (g4 : EReal) (s5 : BitVec 32) (g5 : EReal) (s6 : BitVec 32) (g6 : EReal) (s7 : BitVec 32) (g7 : EReal) (y : S512x128.Idx) :
    k0_pay226 (F := Ideal) (k0_pay222 i) (k0_pay223 i g0 s1 g1 s2 g2 s3 g3 s4 g4) (k0_pay224 (F := Ideal) i s5) (k0_pay225 (F := Ideal) g5) s6 g6 s7 g7 y
      = pick (rowWord i (y 0)) g0 s1 g1 s2 g2 s3 g3 s4 g4 s5 g5 s6 g6 s7 g7 := by
  have e : k0_pay222 i y = rowWord i (y 0) := by
    show BitVec.ofNat 32 (0 * _ + (y 0).val) + _ = _
    rw [Nat.zero_mul, Nat.zero_add]
    rfl
  unfold pick
  rw [← e]
  rfl

/-- The block the kernel computes from decoded activations `X`, decoded weights `W`, a gain per row and one gain for all. -/
def block (X : S512x4096.Idx → EReal) (W : S3584x4096.Idx → EReal) (rg : Fin 512 → EReal) (gw : EReal) : S512x3584.Idx → EReal :=
  fun y => (∑ k : Fin 4096, X (ix2 (y 0) k) * W (ix2 (y 1) k)) * rg (y 0) * gw

/-- The kernel's product is the sum over the 4096 columns. -/
theorem product_apply (X : S512x4096.Idx → EReal) (W : S3584x4096.Idx → EReal) (r : Fin 512) (n : Fin 3584) :
    k0_pay227 (F := Ideal) X W (ix2 r n) = ∑ k : Fin 4096, X (ix2 r k) * W (ix2 n k) := by
  refine (Ideal.matmul_transposedRhs_apply none X W (constant S512x3584 .f32 0x00000000#32) r n).trans ?_
  show Ideal.ofBits .f32 0x00000000#32 + _ = _
  rw [Ideal.ofBits_zero_f32, zero_add]

/-- A piece of 128 columns, at column offset `o 1`. -/
theorem piece (X : S512x4096.Idx → EReal) (W : S3584x4096.Idx → EReal) (rg : Fin 512 → EReal) (gw : EReal)
    (v51 : FVec Ideal S512x128 .f32) (hv : ∀ y, v51 y = rg (y 0)) (o : Fin 2 → Nat) (h : S512x3584.Slices o S512x128)
    (inb : ∀ a, o a + S512x128.size a ≤ S512x3584.size a) (hb : FTy.bits .bf16 < FTy.bits .f32) (ho : o 0 = 0) (y : S512x128.Idx) :
    truncf (F := Ideal) .bf16 (mulf (mulf (extractStridedSlice S512x128 o (k0_pay227 (F := Ideal) X W) h) v51) (broadcast S512x128 gw)) hb y
      = block X W rg gw ((Rect.unit (s := S512x3584) o S512x128.size inb).emb y) := by
  have e : (Rect.unit (s := S512x3584) o S512x128.size inb).emb y = ix2 (y 0) ⟨o 1 + (y 1).val, lt_of_lt_of_le (Nat.add_lt_add_left (y 1).isLt _) (inb 1)⟩ := by
    funext a
    apply Fin.ext
    match a with
    | ⟨0, _⟩ => show o 0 + 1 * (y 0).val = (y 0).val; omega
    | ⟨1, _⟩ => show o 1 + 1 * (y 1).val = o 1 + (y 1).val; omega
  have e' : (fun a => ⟨o a + (y (a.cast h.1.symm)).val, Nat.lt_of_lt_of_le (Nat.add_lt_add_left (y _).isLt _) (h.2 a)⟩ : S512x3584.Idx)
      = ix2 (y 0) ⟨o 1 + (y 1).val, lt_of_lt_of_le (Nat.add_lt_add_left (y 1).isLt _) (inb 1)⟩ := by
    funext a
    apply Fin.ext
    match a with
    | ⟨0, _⟩ => show o 0 + (y 0).val = (y 0).val; omega
    | ⟨1, _⟩ => rfl
  show k0_pay227 (F := Ideal) X W (fun a => ⟨o a + (y (a.cast h.1.symm)).val, Nat.lt_of_lt_of_le (Nat.add_lt_add_left (y _).isLt _) (h.2 a)⟩) * v51 y * gw = _
  rw [e, e', hv]
  exact congrArg (fun s => s * rg (y 0) * gw) (product_apply X W (y 0) _)

variable (c : Dev nD) (i : grid0.Coords)
  (arg1 : Memref sig .tc .smem S8 .i32) (harg1 : arg1.IsWhole)
  (arg2 : Memref sig .tc .smem S8 .f32) (harg2 : arg2.IsWhole)
  (arg3 : Memref sig .tc .smem S1 .f32) (harg3 : arg3.IsWhole)
  (arg4 : Memref sig .tc .vmem S512x2048 .i8) (harg4 : arg4.IsWhole)
  (arg5 : Memref sig .tc .vmem S512x256 .fp8e4m3) (harg5 : arg5.IsWhole)
  (arg6 : Memref sig .tc .vmem S3584x2048 .i8) (harg6 : arg6.IsWhole)
  (arg7 : Memref sig .tc .vmem S3584x256 .fp8e4m3) (harg7 : arg7.IsWhole)
  (arg8 : Memref sig .tc .vmem S512x3584 .bf16) (harg8 : arg8.IsWhole)
  (arg9 : Memref sig .tc .vmem S3584x4096 .bf16) (harg9 : arg9.IsWhole)
  (arg10 : Memref sig .tc .vmem S512x4096 .bf16) (harg10 : arg10.IsWhole)
  (x0 : Vec Ideal S8 .i32) (x1 : Vec Ideal S8 .f32) (x2 : Vec Ideal S1 .f32) (x3 : Vec Ideal S512x2048 .i8)
  (x4 : Vec Ideal S512x256 .fp8e4m3) (x5 : Vec Ideal S3584x2048 .i8) (x6 : Vec Ideal S3584x256 .fp8e4m3)

/-- A scalar the kernel reads from an 8-element array in scalar memory is that element. -/
theorem scalar8 {e : EltTy} (M : Memref sig .tc .smem S8 e) (h : M.IsWhole) (x : Vec Ideal S8 e) (n : Nat) (hn : n < 8)
    (inb : ∀ a, (![n] : Fin 1 → Nat) a + (![1] : Fin 1 → Nat) a ≤ S8.size a) (j : (Rect.unit (s := S8) ![n] ![1] inb).shape.Idx) :
    View.readAt (Elt Ideal) M.view (Rect.unit (s := S8) ![n] ![1] inb).toLoadRect (h.unread x) j = x (ix1 ⟨n, hn⟩) := by
  rw [View.readAt_eq_ld, h.read_unread, View.ld_apply]
  refine congrArg x ?_
  funext a
  apply Fin.ext
  match a with
  | ⟨0, _⟩ =>
    have hj : (j 0).val < 1 := (j 0).isLt
    show n + 1 * (j 0).val = n
    omega

/-- The one scalar of a 1-element array. -/
theorem scalar1 {e : EltTy} (M : Memref sig .tc .smem S1 e) (h : M.IsWhole) (x : Vec Ideal S1 e)
    (inb : ∀ a, (![0] : Fin 1 → Nat) a + (![1] : Fin 1 → Nat) a ≤ S1.size a) (j : (Rect.unit (s := S1) ![0] ![1] inb).shape.Idx) :
    View.readAt (Elt Ideal) M.view (Rect.unit (s := S1) ![0] ![1] inb).toLoadRect (h.unread x) j = x (ix1 0) := by
  rw [View.readAt_eq_ld, h.read_unread, View.ld_apply]
  refine congrArg x ?_
  funext a
  apply Fin.ext
  match a with
  | ⟨0, _⟩ =>
    have hj : (j 0).val < 1 := (j 0).isLt
    show 0 + 1 * (j 0).val = 0
    omega

/-- The gain of a row of the block, from the arrays of segment starts and of gains. -/
def rowGain (s : S8.Idx → BitVec 32) (g : S8.Idx → EReal) (r : BitVec 32) : EReal :=
  pick r (g (ix1 0)) (s (ix1 1)) (g (ix1 1)) (s (ix1 2)) (g (ix1 2)) (s (ix1 3)) (g (ix1 3)) (s (ix1 4)) (g (ix1 4))
    (s (ix1 5)) (g (ix1 5)) (s (ix1 6)) (g (ix1 6)) (s (ix1 7)) (g (ix1 7))

/-- The offset of a whole two-dimensional array, as the zero function. -/
theorem zero2 : (![0, 0] : Fin 2 → Nat) = fun _ => 0 := by
  funext a
  match a with
  | ⟨0, _⟩ => rfl
  | ⟨1, _⟩ => rfl

/-- The activations the product reads are the decoded block of activations: the loop's pieces cover the array. -/
theorem acts_read (B : ∀ a, (![0, 0] : Fin 2 → Nat) a + S512x4096.size a ≤ S512x4096.size a) :
    arg10.view.readCov (pb_k0_t2 (F := Ideal) Variants.none c none i arg1 harg1 arg2 harg2 arg3 harg3 arg4 harg4 arg5 harg5 arg6 harg6 arg7 harg7 arg8 harg8 arg9 harg9 arg10 harg10 (harg4.unread x3) (harg5.unread x4)
        (Scf.trips k0_t2_loop.lb k0_t2_loop.ub k0_t2_loop.st)) (Rect.unit (s := S512x4096) ![0, 0] S512x4096.size B).toLoadRect
      = dec (R := 512) x3 x4 := by
  have hc : ∀ y, ∃ p ∈ (pb_k0_t2 (F := Ideal) Variants.none c none i arg1 harg1 arg2 harg2 arg3 harg3 arg4 harg4 arg5 harg5 arg6 harg6 arg7 harg7 arg8 harg8 arg9 harg9 arg10 harg10 (harg4.unread x3) (harg5.unread x4)
      (Scf.trips k0_t2_loop.lb k0_t2_loop.ub k0_t2_loop.st)), y ∈ p.1.set :=
    fun y => View.cover_of_tiledL (pb_k0_t2 (F := Ideal) Variants.none c none i arg1 harg1 arg2 harg2 arg3 harg3 arg4 harg4 arg5 harg5 arg6 harg6 arg7 harg7 arg8 harg8 arg9 harg9 arg10 harg10 (harg4.unread x3) (harg5.unread x4) (Scf.trips k0_t2_loop.lb k0_t2_loop.ub k0_t2_loop.st)) S32x128.size (by sl_kernel_rfl) y
  rw [View.readCov_eq_canon_ld _ _ _ hc, View.ld_unit_zero zero2]
  funext y
  refine View.canon_apply_of_pieces (dec (R := 512) x3 x4) _ ?_ y (hc y)
  intro pc hpc x
  have := pieces_x c i arg1 harg1 arg2 harg2 arg3 harg3 arg4 harg4 arg5 harg5 arg6 harg6 arg7 harg7 arg8 harg8 arg9 harg9 arg10 harg10 (harg4.unread x3) (harg5.unread x4) _ (Nat.le_refl _) pc hpc x
  rwa [harg4.read_unread, harg5.read_unread] at this

/-- The weights the loop of the first grid point leaves are the decoded weights: its pieces cover the array. -/
theorem weights_canon (h1 : k0_cond1 i = 1#1) :
    View.canon (pb_k0_t1 (F := Ideal) Variants.none c none i arg1 harg1 arg2 harg2 arg3 harg3 arg4 harg4 arg5 harg5 arg6 harg6 arg7 harg7 arg8 harg8 arg9 harg9 arg10 harg10 h1 (harg6.unread x5) (harg7.unread x6)
        (Scf.trips k0_t1_loop.lb k0_t1_loop.ub k0_t1_loop.st))
      = dec (R := 3584) x5 (fun j => x6 j * gain) := by
  funext y
  refine View.canon_apply_of_pieces (dec (R := 3584) x5 (fun j => x6 j * gain)) _ ?_ y (View.cover_of_tiledL (pb_k0_t1 (F := Ideal) Variants.none c none i arg1 harg1 arg2 harg2 arg3 harg3 arg4 harg4 arg5 harg5 arg6 harg6 arg7 harg7 arg8 harg8 arg9 harg9 arg10 harg10 h1 (harg6.unread x5) (harg7.unread x6) (Scf.trips k0_t1_loop.lb k0_t1_loop.ub k0_t1_loop.st)) S32x128.size (by sl_kernel_rfl) y)
  intro pc hpc x
  have := pieces_w c i arg1 harg1 arg2 harg2 arg3 harg3 arg4 harg4 arg5 harg5 arg6 harg6 arg7 harg7 arg8 harg8 arg9 harg9 arg10 harg10 h1 (harg6.unread x5) (harg7.unread x6) _ (Nat.le_refl _) pc hpc x
  rwa [harg6.read_unread, harg7.read_unread] at this

/-- So the weights the product reads at that point are the decoded weights. -/
theorem weights_read (h1 : k0_cond1 i = 1#1) (B : ∀ a, (![0, 0] : Fin 2 → Nat) a + S3584x4096.size a ≤ S3584x4096.size a) :
    arg9.view.readCov (pb_k0_t1 (F := Ideal) Variants.none c none i arg1 harg1 arg2 harg2 arg3 harg3 arg4 harg4 arg5 harg5 arg6 harg6 arg7 harg7 arg8 harg8 arg9 harg9 arg10 harg10 h1 (harg6.unread x5) (harg7.unread x6)
        (Scf.trips k0_t1_loop.lb k0_t1_loop.ub k0_t1_loop.st)) (Rect.unit (s := S3584x4096) ![0, 0] S3584x4096.size B).toLoadRect
      = dec (R := 3584) x5 (fun j => x6 j * gain) := by
  rw [View.readCov_eq_canon_ld _ _ _ (fun y => View.cover_of_tiledL (pb_k0_t1 (F := Ideal) Variants.none c none i arg1 harg1 arg2 harg2 arg3 harg3 arg4 harg4 arg5 harg5 arg6 harg6 arg7 harg7 arg8 harg8 arg9 harg9 arg10 harg10 h1 (harg6.unread x5) (harg7.unread x6) (Scf.trips k0_t1_loop.lb k0_t1_loop.ub k0_t1_loop.st)) S32x128.size (by sl_kernel_rfl) y), View.ld_unit_zero zero2]
  exact weights_canon c i arg1 harg1 arg2 harg2 arg3 harg3 arg4 harg4 arg5 harg5 arg6 harg6 arg7 harg7 arg8 harg8 arg9 harg9 arg10 harg10 x5 x6 h1

/-- At the first grid point, every stored piece is a piece of the block computed from the weights just decoded. -/
theorem pieces_A (hc0 : cond0_0 i) :
    ∀ pc ∈ (kernelRun0_A (F := Ideal) c i arg1 harg1 arg2 harg2 arg3 harg3 arg4 harg4 arg5 harg5 arg6 harg6 arg7 harg7 arg8 harg8 arg9 harg9 arg10 harg10 hc0 x0 x1 x2 x3 x4 x5 x6).1,
      ∀ y, pc.2 y = block (dec (R := 512) x3 x4) (dec (R := 3584) x5 (fun j => x6 j * gain)) (fun a => rowGain x0 x1 (rowWord i a)) (x2 (ix1 0)) (pc.1.emb y) := by
  unfold kernelRun0_A
  dsimp only
  sl_unfold_run_names
  simp only [List.forall_mem_cons]
  rw [acts_read c i arg1 harg1 arg2 harg2 arg3 harg3 arg4 harg4 arg5 harg5 arg6 harg6 arg7 harg7 arg8 harg8 arg9 harg9 arg10 harg10 x3 x4]
  rw [weights_read c i arg1 harg1 arg2 harg2 arg3 harg3 arg4 harg4 arg5 harg5 arg6 harg6 arg7 harg7 arg8 harg8 arg9 harg9 arg10 harg10 x5 x6]
  simp only [k0_pay1, k0_pay2, k0_pay3, k0_pay4, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253]
  simp only [scalar8 arg1 harg1 x0 1 (by decide), scalar8 arg1 harg1 x0 2 (by decide), scalar8 arg1 harg1 x0 3 (by decide), scalar8 arg1 harg1 x0 4 (by decide), scalar8 arg1 harg1 x0 5 (by decide), scalar8 arg1 harg1 x0 6 (by decide), scalar8 arg1 harg1 x0 7 (by decide), scalar8 arg2 harg2 x1 0 (by decide), scalar8 arg2 harg2 x1 1 (by decide), scalar8 arg2 harg2 x1 2 (by decide), scalar8 arg2 harg2 x1 3 (by decide), scalar8 arg2 harg2 x1 4 (by decide), scalar8 arg2 harg2 x1 5 (by decide), scalar8 arg2 harg2 x1 6 (by decide), scalar8 arg2 harg2 x1 7 (by decide), scalar1 arg3 harg3 x2]
  iterate 28
    refine ⟨fun y => piece _ _ (fun a => rowGain x0 x1 (rowWord i a)) _ _ (fun y => gains_apply i _ _ _ _ _ _ _ _ _ _ _ _ _ _ _ y) _ _ _ _ rfl y, ?_⟩
  exact fun _ h => absurd h List.not_mem_nil

/-- At a grid point after the first, every stored piece is a piece of the block computed from the carried weights. -/
theorem pieces_B (hc0 : ¬cond0_0 i) (xs0 : Vec Ideal S3584x4096 .bf16) :
    ∀ pc ∈ (kernelRun0_B (F := Ideal) c i arg1 harg1 arg2 harg2 arg3 harg3 arg4 harg4 arg5 harg5 arg6 harg6 arg7 harg7 arg8 harg8 arg9 harg9 arg10 harg10 hc0 x0 x1 x2 x3 x4 x5 x6 xs0).1,
      ∀ y, pc.2 y = block (dec (R := 512) x3 x4) xs0 (fun a => rowGain x0 x1 (rowWord i a)) (x2 (ix1 0)) (pc.1.emb y) := by
  unfold kernelRun0_B
  dsimp only
  sl_unfold_run_names
  simp only [List.forall_mem_cons]
  rw [acts_read c i arg1 harg1 arg2 harg2 arg3 harg3 arg4 harg4 arg5 harg5 arg6 harg6 arg7 harg7 arg8 harg8 arg9 harg9 arg10 harg10 x3 x4]
  rw [View.readAt_eq_ld arg9.view, harg9.read_unread, View.ld_unit_zero zero2]
  simp only [k0_pay1, k0_pay2, k0_pay3, k0_pay4, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253]
  simp only [scalar8 arg1 harg1 x0 1 (by decide), scalar8 arg1 harg1 x0 2 (by decide), scalar8 arg1 harg1 x0 3 (by decide), scalar8 arg1 harg1 x0 4 (by decide), scalar8 arg1 harg1 x0 5 (by decide), scalar8 arg1 harg1 x0 6 (by decide), scalar8 arg1 harg1 x0 7 (by decide), scalar8 arg2 harg2 x1 0 (by decide), scalar8 arg2 harg2 x1 1 (by decide), scalar8 arg2 harg2 x1 2 (by decide), scalar8 arg2 harg2 x1 3 (by decide), scalar8 arg2 harg2 x1 4 (by decide), scalar8 arg2 harg2 x1 5 (by decide), scalar8 arg2 harg2 x1 6 (by decide), scalar8 arg2 harg2 x1 7 (by decide), scalar1 arg3 harg3 x2]
  iterate 28
    refine ⟨fun y => piece _ _ (fun a => rowGain x0 x1 (rowWord i a)) _ _ (fun y => gains_apply i _ _ _ _ _ _ _ _ _ _ _ _ _ _ _ y) _ _ _ _ rfl y, ?_⟩
  exact fun _ h => absurd h List.not_mem_nil

/-- What the first grid point leaves in the output block. -/
theorem out_A (hc0 : cond0_0 i) :
    out0_A_7 (F := Ideal) c i arg1 harg1 arg2 harg2 arg3 harg3 arg4 harg4 arg5 harg5 arg6 harg6 arg7 harg7 arg8 harg8 arg9 harg9 arg10 harg10 hc0 x0 x1 x2 x3 x4 x5 x6
      = block (dec (R := 512) x3 x4) (dec (R := 3584) x5 (fun j => x6 j * gain)) (fun a => rowGain x0 x1 (rowWord i a)) (x2 (ix1 0)) := by
  have hc := cover0_A_7 (F := Ideal) c i arg1 harg1 arg2 harg2 arg3 harg3 arg4 harg4 arg5 harg5 arg6 harg6 arg7 harg7 arg8 harg8 arg9 harg9 arg10 harg10 hc0 x0 x1 x2 x3 x4 x5 x6
  unfold out0_A_7
  rw [View.read_writes_eq_canon _ _ _ hc]
  funext y
  exact View.canon_apply_of_pieces _ _ (pieces_A c i arg1 harg1 arg2 harg2 arg3 harg3 arg4 harg4 arg5 harg5 arg6 harg6 arg7 harg7 arg8 harg8 arg9 harg9 arg10 harg10 x0 x1 x2 x3 x4 x5 x6 hc0) y (hc y)

/-- What a later grid point leaves in the output block. -/
theorem out_B (hc0 : ¬cond0_0 i) (xs0 : Vec Ideal S3584x4096 .bf16) :
    out0_B_7 (F := Ideal) c i arg1 harg1 arg2 harg2 arg3 harg3 arg4 harg4 arg5 harg5 arg6 harg6 arg7 harg7 arg8 harg8 arg9 harg9 arg10 harg10 hc0 x0 x1 x2 x3 x4 x5 x6 xs0
      = block (dec (R := 512) x3 x4) xs0 (fun a => rowGain x0 x1 (rowWord i a)) (x2 (ix1 0)) := by
  have hc := cover0_B_7 (F := Ideal) c i arg1 harg1 arg2 harg2 arg3 harg3 arg4 harg4 arg5 harg5 arg6 harg6 arg7 harg7 arg8 harg8 arg9 harg9 arg10 harg10 hc0 x0 x1 x2 x3 x4 x5 x6 xs0
  unfold out0_B_7
  rw [View.read_writes_eq_canon _ _ _ hc]
  funext y
  exact View.canon_apply_of_pieces _ _ (pieces_B c i arg1 harg1 arg2 harg2 arg3 harg3 arg4 harg4 arg5 harg5 arg6 harg6 arg7 harg7 arg8 harg8 arg9 harg9 arg10 harg10 x0 x1 x2 x3 x4 x5 x6 hc0 xs0) y (hc y)

/-- What the first grid point leaves in the carried array: the decoded weights. -/
theorem sout_A (hc0 : cond0_0 i) :
    sout0_A_0 (F := Ideal) c i arg1 harg1 arg2 harg2 arg3 harg3 arg4 harg4 arg5 harg5 arg6 harg6 arg7 harg7 arg8 harg8 arg9 harg9 arg10 harg10 hc0 x0 x1 x2 x3 x4 x5 x6 = dec (R := 3584) x5 (fun j => x6 j * gain) := by
  have hc := scover0_A_0 (F := Ideal) c i arg1 harg1 arg2 harg2 arg3 harg3 arg4 harg4 arg5 harg5 arg6 harg6 arg7 harg7 arg8 harg8 arg9 harg9 arg10 harg10 hc0 x0 x1 x2 x3 x4 x5 x6
  unfold sout0_A_0
  rw [View.read_writes_eq_canon _ _ _ hc]
  unfold kernelRun0_A
  dsimp only
  sl_unfold_run_names
  exact weights_canon c i arg1 harg1 arg2 harg2 arg3 harg3 arg4 harg4 arg5 harg5 arg6 harg6 arg7 harg7 arg8 harg8 arg9 harg9 arg10 harg10 x5 x6 _

end Cert.KernelIdeal.Decode
-- ==== Proof.KernelValue.lean ====
/-
  Hand-written, untrusted. The kernel's whole run, read: the blocks the twenty points are handed (`iblk_whole*`, `codes_block`,
  `scales_block`), what the carried array holds after every point (`carried`), what each point leaves in its output block
  (`point`), and so the result array the run ends with (`run_result`), the function `result` of the seven arguments.
-/
module

public import proofs.«01_k».proof.Proof.Block
public import Idealize.ShloMosaic.Lib.Claim

@[expose] public section

set_option maxRecDepth 16384

noncomputable section

namespace Cert.KernelIdeal.Decode

open Idealize.ShloMosaic Idealize.ShloMosaic.TcCoe Idealize.SL.Sem Idealize.ShloMosaic.ValueIdx
open Cert.KernelIdeal Cert.KernelIdeal.Gen Cert.Codes

variable (m : (ℓ : Loc nD τ sig) → Buf (Elt Ideal) ℓ)

/-- Two decoded arrays agree along two rows whose codes and scales agree. -/
theorem dec_rows {R R' : Nat} (cd : (⟨2, ![R, 2048]⟩ : Shape).Idx → BitVec 8) (sc : (⟨2, ![R, 256]⟩ : Shape).Idx → EReal)
    (cd' : (⟨2, ![R', 2048]⟩ : Shape).Idx → BitVec 8) (sc' : (⟨2, ![R', 256]⟩ : Shape).Idx → EReal) (r : Fin R) (r' : Fin R')
    (hc : ∀ j : Fin 2048, cd (ix2 r j) = cd' (ix2 r' j)) (hs : ∀ j : Fin 256, sc (ix2 r j) = sc' (ix2 r' j)) (k : Fin 4096) :
    dec cd sc (ix2 r k) = dec cd' sc' (ix2 r' k) := by
  by_cases h : k.val < 2048
  · refine (dif_pos h).trans (Eq.trans ?_ (dif_pos h).symm)
    exact congrArg₂ (· * ·) (congrArg (fun b => Ideal.ofBits .fp8e4m3 (loByte b)) (hc _)) (hs _)
  · refine (dif_neg h).trans (Eq.trans ?_ (dif_neg h).symm)
    exact congrArg₂ (· * ·) (congrArg (fun b => Ideal.ofBits .fp8e4m3 (hiByte b)) (hc _)) (hs _)

/-- The decoded weights, the gain 4096 put into their scales. -/
def decW (wc : S3584x2048.Idx → BitVec 8) (ws : S3584x256.Idx → EReal) : S3584x4096.Idx → EReal :=
  dec (R := 3584) wc (fun j => ws j * gain)

/-- The run's result, of the arguments: `s` the first rows of the eight segments, `g` their gains, `h` the output gain, `xc`/`xs`
    the codes and scales of the activations, `wc`/`ws` those of the weights. -/
def result (s : S8.Idx → BitVec 32) (g : S8.Idx → EReal) (h : S1.Idx → EReal) (xc : S4x2560x2048.Idx → BitVec 8)
    (xs : S4x2560x256.Idx → EReal) (wc : S3584x2048.Idx → BitVec 8) (ws : S3584x256.Idx → EReal) : S10240x3584.Idx → EReal := fun i =>
  (∑ k : Fin 4096, dec (R := 10240) (shapeCast S10240x2048 xc shapeCasts_S4x2560x2048_S10240x2048)
      (shapeCast S10240x256 xs shapeCasts_S4x2560x256_S10240x256) (ix2 (i 0) k)
    * decW wc ws (ix2 (i 1) k)) * rowGain s g (BitVec.ofNat 32 (i 0).val) * h (ix1 0)

/-- Every grid point is handed the whole array of segment starts. -/
theorem iblk_whole0 (c : Dev nD) (t : Fin cfg0.N) : iblk m c 0 t = m ((c : Thread nD τ).loc main_arg6) := by
  have hz : (fun a => win0_0.index t a * main_arg6.ty.shape.size a) = fun _ => 0 :=
    (by decide +kernel : ∀ t : Fin grid0.N, (fun a => win0_0.index t a * main_arg6.ty.shape.size a) = fun _ => 0) t
  exact (Memref.read_access_unit_zero (Elt Ideal) main_arg6 hz _ _).trans (V_main_arg6 m c)

/-- Every grid point is handed the whole array of segment gains. -/
theorem iblk_whole1 (c : Dev nD) (t : Fin cfg0.N) : iblk m c 1 t = m ((c : Thread nD τ).loc main_arg2) := by
  have hz : (fun a => win0_1.index t a * main_arg2.ty.shape.size a) = fun _ => 0 :=
    (by decide +kernel : ∀ t : Fin grid0.N, (fun a => win0_1.index t a * main_arg2.ty.shape.size a) = fun _ => 0) t
  exact (Memref.read_access_unit_zero (Elt Ideal) main_arg2 hz _ _).trans (V_main_arg2 m c)

/-- Every grid point is handed the weights' global scale. -/
theorem iblk_whole2 (c : Dev nD) (t : Fin cfg0.N) : iblk m c 2 t = m ((c : Thread nD τ).loc main_arg5) := by
  have hz : (fun a => win0_2.index t a * main_arg5.ty.shape.size a) = fun _ => 0 :=
    (by decide +kernel : ∀ t : Fin grid0.N, (fun a => win0_2.index t a * main_arg5.ty.shape.size a) = fun _ => 0) t
  exact (Memref.read_access_unit_zero (Elt Ideal) main_arg5 hz _ _).trans (V_main_arg5 m c)

/-- Every grid point is handed all the weights' codes. -/
theorem iblk_whole5 (c : Dev nD) (t : Fin cfg0.N) : iblk m c 5 t = m ((c : Thread nD τ).loc main_arg3) := by
  have hz : (fun a => win0_5.index t a * main_arg3.ty.shape.size a) = fun _ => 0 :=
    (by decide +kernel : ∀ t : Fin grid0.N, (fun a => win0_5.index t a * main_arg3.ty.shape.size a) = fun _ => 0) t
  exact (Memref.read_access_unit_zero (Elt Ideal) main_arg3 hz _ _).trans (V_main_arg3 m c)

/-- Every grid point is handed all the weights' block scales. -/
theorem iblk_whole6 (c : Dev nD) (t : Fin cfg0.N) : iblk m c 6 t = m ((c : Thread nD τ).loc main_arg4) := by
  have hz : (fun a => win0_6.index t a * main_arg4.ty.shape.size a) = fun _ => 0 :=
    (by decide +kernel : ∀ t : Fin grid0.N, (fun a => win0_6.index t a * main_arg4.ty.shape.size a) = fun _ => 0) t
  exact (Memref.read_access_unit_zero (Elt Ideal) main_arg4 hz _ _).trans (V_main_arg4 m c)

/-- The codes of the activations as the region finds them: the argument, its two leading axes merged. -/
theorem V_codes (c : Dev nD) : V m c main_v0
    = shapeCast S10240x2048 (m ((c : Thread nD τ).loc main_arg0)) shapeCasts_S4x2560x2048_S10240x2048 := by
  entry_read
  rfl

/-- The scales of the activations as the region finds them. -/
theorem V_scales (c : Dev nD) : V m c main_v1
    = shapeCast S10240x256 (m ((c : Thread nD τ).loc main_arg1)) shapeCasts_S4x2560x256_S10240x256 := by
  entry_read
  rfl

/-- Point `t`'s row `r` of its block, as a row of the whole array. -/
def rowAt (t : Fin cfg0.N) (r : Fin 512) : Fin 10240 :=
  ⟨512 * t.val + r.val, by have := t.isLt; have e : cfg0.N = 20 := N_0; omega⟩

/-- The block of codes of a grid point is the point's own, in the first axis. -/
theorem index3 : ∀ t : Fin cfg0.N, win0_3.index t (0 : Fin 2) = t.val ∧ win0_3.index t (1 : Fin 2) = 0 :=
  (by decide +kernel : ∀ t : Fin grid0.N, _)

/-- The block of scales of a grid point is the point's own, in the first axis. -/
theorem index4 : ∀ t : Fin cfg0.N, win0_4.index t (0 : Fin 2) = t.val ∧ win0_4.index t (1 : Fin 2) = 0 :=
  (by decide +kernel : ∀ t : Fin grid0.N, _)

/-- The block of the result of a grid point is the point's own, in the first axis. -/
theorem index7 : ∀ t : Fin cfg0.N, win0_7.index t (0 : Fin 2) = t.val ∧ win0_7.index t (1 : Fin 2) = 0 :=
  (by decide +kernel : ∀ t : Fin grid0.N, _)

/-- The block of codes point `t` is handed: its 512 rows. -/
theorem codes_block (c : Dev nD) (t : Fin cfg0.N) (r : Fin 512) (k : Fin 2048) :
    iblk m c 3 t (ix2 r k) = shapeCast S10240x2048 (m ((c : Thread nD τ).loc main_arg0)) shapeCasts_S4x2560x2048_S10240x2048 (ix2 (rowAt t r) k) := by
  obtain ⟨e0, e1⟩ := index3 t
  rw [← V_codes m c]
  show V m c main_v0 (((cfg0.win 3).blk t).view.emb (ix2 r k)) = V m c main_v0 (ix2 (rowAt t r) k)
  refine congrArg (V m c main_v0) (funext fun a => Fin.ext ?_)
  match a with
  | ⟨0, _⟩ => show win0_3.index t (0 : Fin 2) * 512 + 1 * r.val = 512 * t.val + r.val; omega
  | ⟨1, _⟩ => show win0_3.index t (1 : Fin 2) * 2048 + 1 * k.val = k.val; omega

/-- The block of scales point `t` is handed. -/
theorem scales_block (c : Dev nD) (t : Fin cfg0.N) (r : Fin 512) (k : Fin 256) :
    iblk m c 4 t (ix2 r k) = shapeCast S10240x256 (m ((c : Thread nD τ).loc main_arg1)) shapeCasts_S4x2560x256_S10240x256 (ix2 (rowAt t r) k) := by
  obtain ⟨e0, e1⟩ := index4 t
  rw [← V_scales m c]
  show V m c main_v1 (((cfg0.win 4).blk t).view.emb (ix2 r k)) = V m c main_v1 (ix2 (rowAt t r) k)
  refine congrArg (V m c main_v1) (funext fun a => Fin.ext ?_)
  match a with
  | ⟨0, _⟩ => show win0_4.index t (0 : Fin 2) * 512 + 1 * r.val = 512 * t.val + r.val; omega
  | ⟨1, _⟩ => show win0_4.index t (1 : Fin 2) * 256 + 1 * k.val = k.val; omega

/-- The decoded weights every point reads. -/
def weights (c : Dev nD) : S3584x4096.Idx → EReal :=
  decW (m ((c : Thread nD τ).loc main_arg3)) (m ((c : Thread nD τ).loc main_arg4))

/-- After every point the carried array holds the decoded weights: the first point writes them, the others keep them. -/
theorem carried (c : Dev nD) : ∀ (n : Nat) (h : n < cfg0.N), (outsAt0 m c n h).2 = weights m c := by
  intro n
  induction n with
  | zero =>
    intro h
    have e := congrArg Prod.snd (outsAt0_A m c ⟨0, h⟩ rfl)
    refine e.trans ?_
    dsimp only
    rw [sout_A, iblk_whole5, iblk_whole6]
    rfl
  | succ n ih =>
    intro h
    have hN : cfg0.N = 20 := N_0
    have e := congrArg Prod.snd (outsAt0_B m c ⟨n + 1, h⟩ (by dsimp only; omega))
    refine e.trans ?_
    exact ih (by omega)

/-- The number of a row of the block, as the kernel computes it in words, is the row's number in the whole array. -/
theorem rowWord_eq (t : Fin cfg0.N) (r : Fin 512) : rowWord (grid0.coords t) r = BitVec.ofNat 32 (rowAt t r).val := by
  have e : (grid0.coords t 0).val = t.val / 1 % 20 := Pipeline.Grid.coords_val t 0 (by decide) rfl
  have ht := t.isLt
  have hN : cfg0.N = 20 := N_0
  have e' : (grid0.coords t 0).val = t.val := by omega
  unfold rowWord
  rw [e']
  apply BitVec.eq_of_toNat_eq
  have hr := r.isLt
  simp only [BitVec.toNat_add, BitVec.toNat_mul, BitVec.toNat_ofNat, rowAt]
  omega

/-- What every point leaves in its output block. -/
theorem point (c : Dev nD) (t : Fin cfg0.N) : (outsAt0 m c t.val t.isLt).1
    = block (dec (R := 512) (iblk m c 3 t) (iblk m c 4 t)) (weights m c)
        (fun a => rowGain (iblk m c 0 t) (iblk m c 1 t) (rowWord (grid0.coords t) a)) (iblk m c 2 t (ix1 0)) := by
  by_cases h0 : t.val % 20 = 0
  · refine (congrArg Prod.fst (outsAt0_A m c t h0)).trans ?_
    dsimp only
    rw [out_A, iblk_whole5, iblk_whole6]
    rfl
  · refine (congrArg Prod.fst (outsAt0_B m c t h0)).trans ?_
    dsimp only
    rw [out_B, carried]

/-- The run's result, of a device's memory. -/
def resultOf (c : Dev nD) : S10240x3584.Idx → EReal :=
  result (m ((c : Thread nD τ).loc main_arg6)) (m ((c : Thread nD τ).loc main_arg2)) (m ((c : Thread nD τ).loc main_arg5))
    (m ((c : Thread nD τ).loc main_arg0)) (m ((c : Thread nD τ).loc main_arg1)) (m ((c : Thread nD τ).loc main_arg3))
    (m ((c : Thread nD τ).loc main_arg4))

/-- What every point leaves in its output block, at an element: the result's element at the block's place. -/
theorem point_apply (c : Dev nD) (t : Fin cfg0.N) (r : Fin 512) (n : Fin 3584) :
    (outsAt0 m c t.val t.isLt).1 (ix2 r n) = resultOf m c (ix2 (rowAt t r) n) := by
  rw [point, iblk_whole0, iblk_whole1, iblk_whole2]
  show (∑ k : Fin 4096, dec (R := 512) (iblk m c 3 t) (iblk m c 4 t) (ix2 r k) * weights m c (ix2 n k))
      * rowGain (m ((c : Thread nD τ).loc main_arg6)) (m ((c : Thread nD τ).loc main_arg2)) (rowWord (grid0.coords t) r)
      * m ((c : Thread nD τ).loc main_arg5) (ix1 0) = _
  rw [rowWord_eq, Finset.sum_congr rfl fun k _ => congrArg (fun z : EReal => z * weights m c (ix2 n k))
    (dec_rows (iblk m c 3 t) (iblk m c 4 t) _ _ r (rowAt t r) (codes_block m c t r) (scales_block m c t r) k)]
  rfl

/-- What every point writes back is its block of the result. -/
theorem flushed_result (c : Dev nD) (t : Fin cfg0.N) :
    (dats m 0 c).flushed 7 t = ((cfg0.win 7).blk t).view.read (Elt Ideal) (resultOf m c) := by
  refine (Value.flushed7 m c t).trans ?_
  obtain ⟨e0, e1⟩ := index7 t
  funext y
  obtain ⟨y0, hy0⟩ : ∃ r : Fin 512, r = y 0 := ⟨_, rfl⟩
  obtain ⟨y1, hy1⟩ : ∃ r : Fin 3584, r = y 1 := ⟨_, rfl⟩
  have hl : (cfg0.win 7).xinj (grid0.coords t) y = ix2 y0 y1 := by
    funext a; apply Fin.ext
    match a with
    | ⟨0, _⟩ => exact (congrArg Fin.val hy0).symm
    | ⟨1, _⟩ => exact (congrArg Fin.val hy1).symm
  have hb : ((cfg0.win 7).blk t).view.emb y = ix2 (rowAt t y0) y1 := by
    funext a; apply Fin.ext
    match a with
    | ⟨0, _⟩ => show win0_7.index t (0 : Fin 2) * 512 + 1 * (y 0).val = 512 * t.val + y0.val; rw [hy0]; omega
    | ⟨1, _⟩ => show win0_7.index t (1 : Fin 2) * 3584 + 1 * (y 1).val = y1.val; rw [hy1]; omega
  show (outsAt0 m c t.val t.isLt).1 ((cfg0.win 7).xinj (grid0.coords t) y) = resultOf m c (((cfg0.win 7).blk t).view.emb y)
  rw [hl, hb]
  exact point_apply m c t y0 y1

/-- The run: the result array ends at `result` of the arguments, the arguments unchanged. -/
theorem run_result (ρ : Dev nD → PrngReg) :
    θ_run (defs (F := Ideal)) (onTc (τ := τ) (main (F := Ideal))) ⟨m, fun _ => 0, ρ⟩ fun r => ∀ c : Dev nD,
      r.2.mem ((c : Thread nD τ).loc main_v2) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((dats m 0 c).arrAt_eq_of_cover 7 _ (fun t _ => flushed_result m c t)
      (fun i => (Value.covered_iff7 i).2 (by
        have h0 : (i 0).val < 10240 := (i 0).isLt
        have h1 : (i 1).val < 3584 := (i 1).isLt
        omega))), (h c).2⟩) (Value.run_blocks m ρ)

end Cert.KernelIdeal.Decode
-- ==== Proof.RefDecode.lean ====
/-
  Hand-written, untrusted. The reference's decoding, at an index: a code byte's low and high nibble, widened to a word, go through
  tests of their four bits and selects of the eight magnitudes; the result is the e2m1 value (`Codes.loVal`, `Codes.hiVal`), times the
  scale of its block of eight bytes.
-/
module

public import proofs.«01_k».proof.Proof.Codes
public import proofs.«01_k».proof.Proof.Gen.ReferenceIdeal.Read

@[expose] public section

set_option maxRecDepth 16384

noncomputable section

namespace Cert.ReferenceIdeal.Model

open Idealize.ShloMosaic Idealize.ShloMosaic.TcCoe Idealize.SL.Sem Idealize.ShloMosaic.ValueIdx
open Cert.ReferenceIdeal Cert.ReferenceIdeal.Gen Cert.ReferenceIdeal.Read Cert.Codes

/-- The magnitude of a code word as the reference selects it by its three low bits. -/
def magnitude (w : BitVec 32) : EReal :=
  Scalar.select (IntOp.cmpi .ne (IntOp.andi w 4#32) 0#32)
    (Scalar.select (IntOp.cmpi .ne (IntOp.andi w 2#32) 0#32)
      (Scalar.select (IntOp.cmpi .ne (IntOp.andi w 1#32) 0#32) (Ideal.ofBits .bf16 0x40c0#16) (Ideal.ofBits .bf16 0x4080#16))
      (Scalar.select (IntOp.cmpi .ne (IntOp.andi w 1#32) 0#32) (Ideal.ofBits .bf16 0x4040#16) (Ideal.ofBits .bf16 0x4000#16)))
    (Scalar.select (IntOp.cmpi .ne (IntOp.andi w 2#32) 0#32)
      (Scalar.select (IntOp.cmpi .ne (IntOp.andi w 1#32) 0#32) (Ideal.ofBits .bf16 0x3fc0#16) (Ideal.ofBits .bf16 0x3f80#16))
      (Scalar.select (IntOp.cmpi .ne (IntOp.andi w 1#32) 0#32) (Ideal.ofBits .bf16 0x3f00#16) (Ideal.ofBits .bf16 0x0000#16)))

/-- The value of a code word as the reference selects it: the magnitude, negated when bit 3 is set. -/
def code (w : BitVec 32) : EReal :=
  Scalar.select (IntOp.cmpi .ne (IntOp.andi w 8#32) 0#32) (-(magnitude w)) (magnitude w)

/-! The bf16 constants' values. -/

/-- The constant one half. -/
theorem half_val : Ideal.ofBits .bf16 0x3f00#16 = ((1 / 2 : ℝ) : EReal) := by
  simp [Ideal.ofBits, Ideal.ieee, BitVec.extractLsb', -EReal.coe_mul, Nat.shiftRight_eq_div_pow]; try norm_num

/-- The constant one. -/
theorem one_val : Ideal.ofBits .bf16 0x3f80#16 = ((1 : ℝ) : EReal) := by
  simp [Ideal.ofBits, Ideal.ieee, BitVec.extractLsb', -EReal.coe_mul, Nat.shiftRight_eq_div_pow]; try norm_num

/-- The constant one and a half. -/
theorem onehalf_val : Ideal.ofBits .bf16 0x3fc0#16 = ((3 / 2 : ℝ) : EReal) := by
  simp [Ideal.ofBits, Ideal.ieee, BitVec.extractLsb', -EReal.coe_mul, Nat.shiftRight_eq_div_pow]; try norm_num

/-- The constant two. -/
theorem two_val : Ideal.ofBits .bf16 0x4000#16 = ((2 : ℝ) : EReal) := by
  simp [Ideal.ofBits, Ideal.ieee, BitVec.extractLsb', -EReal.coe_mul, Nat.shiftRight_eq_div_pow]; try norm_num

/-- The constant three. -/
theorem three_val : Ideal.ofBits .bf16 0x4040#16 = ((3 : ℝ) : EReal) := by
  simp [Ideal.ofBits, Ideal.ieee, BitVec.extractLsb', -EReal.coe_mul, Nat.shiftRight_eq_div_pow]; try norm_num

/-- The constant four. -/
theorem four_val : Ideal.ofBits .bf16 0x4080#16 = ((4 : ℝ) : EReal) := by
  simp [Ideal.ofBits, Ideal.ieee, BitVec.extractLsb', -EReal.coe_mul, Nat.shiftRight_eq_div_pow]; try norm_num

/-- The constant six. -/
theorem six_val : Ideal.ofBits .bf16 0x40c0#16 = ((6 : ℝ) : EReal) := by
  simp [Ideal.ofBits, Ideal.ieee, BitVec.extractLsb', -EReal.coe_mul, Nat.shiftRight_eq_div_pow]; try norm_num

/-- The constant zero. -/
theorem zero_val : Ideal.ofBits .bf16 0x0000#16 = ((0 : ℝ) : EReal) := by
  simp [Ideal.ofBits, Ideal.ieee, BitVec.extractLsb', -EReal.coe_mul, Nat.shiftRight_eq_div_pow]; try norm_num

/-- A code word whose low four bits are given selects the e2m1 value of those bits. -/
theorem code_eq {w : BitVec 32} {b3 b2 b1 b0 : Bool} (h0 : IntOp.cmpi .ne (IntOp.andi w 1#32) 0#32 = BitVec.ofBool b0)
    (h1 : IntOp.cmpi .ne (IntOp.andi w 2#32) 0#32 = BitVec.ofBool b1) (h2 : IntOp.cmpi .ne (IntOp.andi w 4#32) 0#32 = BitVec.ofBool b2)
    (h3 : IntOp.cmpi .ne (IntOp.andi w 8#32) 0#32 = BitVec.ofBool b3) : code w = ((e2m1 b3 b2 b1 b0 : ℝ) : EReal) := by
  simp only [code, magnitude, h0, h1, h2, h3, half_val, one_val, onehalf_val, two_val, three_val, four_val, six_val, zero_val]
  cases b3 <;> cases b2 <;> cases b1 <;> cases b0 <;> simp [Scalar.select, e2m1, -EReal.coe_mul, ← EReal.coe_neg] <;>
    rw [EReal.coe_neg, EReal.coe_one]

/-- The low nibble of a code byte, as a word, has the byte's bits 0 to 3. -/
theorem code_lo (b : BitVec 8) : code (IntOp.andi (b.setWidth 32) 15#32) = ((loVal b : ℝ) : EReal) :=
  code_eq (by revert b; decide) (by revert b; decide) (by revert b; decide) (by revert b; decide)

/-- The high nibble of a code byte, as a word, has the byte's bits 4 to 7. -/
theorem code_hi (b : BitVec 8) : code (IntOp.shrsi .host (b.setWidth 32) 4#32) = ((hiVal b : ℝ) : EReal) :=
  code_eq (by revert b; decide) (by revert b; decide) (by revert b; decide) (by revert b; decide)

/-! ### The activations -/

/-- The chain of tests and selects gives the value of an activation code word. -/
theorem x0_code (x0 : S4x2560x2048.Idx → BitVec 8) (i : S2x4x2560x2048.Idx) :
    val_main_v34 (F := Ideal) x0 i = code (val_main_v9 (F := Ideal) x0 i) := by
  simp only [val_main_v34_apply, val_main_v33_apply, val_main_v32_apply, val_main_v31_apply, val_main_v30_apply, val_main_v29_apply,
    val_main_v28_apply, val_main_v27_apply, val_main_v26_apply, val_main_v25_apply, val_main_v21_apply, val_main_v17_apply,
    val_main_v13_apply, val_main_v11_apply, val_main_v15_apply, val_main_v19_apply, val_main_v23_apply, val_main_v10_apply,
    val_main_v12_apply, val_main_v14_apply, val_main_v16_apply, val_main_v18_apply, val_main_v20_apply, val_main_v22_apply,
    val_main_v24_apply, val_main_call0_v0_apply, val_main_call0_v1_apply, val_main_call1_v0_apply, val_main_call1_v1_apply,
    val_main_call2_v0_apply, val_main_call2_v1_apply, val_main_call3_v0_apply, val_main_call3_v1_apply]
  rfl

/-- The stacked words: the low nibbles first. -/
theorem x0_lo_word (x0 : S4x2560x2048.Idx → BitVec 8) (a : Fin 4) (t : Fin 2560) (j : Fin 2048) :
    val_main_v9 (F := Ideal) x0 (ix4 (0 : Fin 2) a t j) = IntOp.andi ((x0 (ix3 a t j)).setWidth 32) 15#32 := by
  unfold val_main_v9
  refine (concatenate_pair_apply_left (s₁ := S1x4x2560x2048) (s₂ := S1x4x2560x2048) (t := S2x4x2560x2048) 0 (val_main_v7 (F := Ideal) x0)
    (val_main_v8 (F := Ideal) x0) concatenates_S1x4x2560x2048_S1x4x2560x2048_S2x4x2560x2048_d0 (ix4 (0 : Fin 2) a t j) rfl (ix4 (0 : Fin 1) a t j) ?_).trans ?_
  · intro b
    match b with
    | ⟨0, _⟩ => rfl
    | ⟨1, _⟩ => rfl
    | ⟨2, _⟩ => rfl
    | ⟨3, _⟩ => rfl
  · rw [val_main_v7_apply]
    have e : idx_main_v7 (ix4 (0 : Fin 1) a t j) = ix3 a t j := eq_ix3 _
    rw [e]
    rfl

/-- The stacked words: the high nibbles second. -/
theorem x0_hi_word (x0 : S4x2560x2048.Idx → BitVec 8) (a : Fin 4) (t : Fin 2560) (j : Fin 2048) :
    val_main_v9 (F := Ideal) x0 (ix4 (1 : Fin 2) a t j) = IntOp.shrsi .host ((x0 (ix3 a t j)).setWidth 32) 4#32 := by
  unfold val_main_v9
  refine (concatenate_pair_apply_right (s₁ := S1x4x2560x2048) (s₂ := S1x4x2560x2048) (t := S2x4x2560x2048) 0 (val_main_v7 (F := Ideal) x0)
    (val_main_v8 (F := Ideal) x0) concatenates_S1x4x2560x2048_S1x4x2560x2048_S2x4x2560x2048_d0 (ix4 (1 : Fin 2) a t j) rfl rfl (ix4 (0 : Fin 1) a t j) ?_ ?_).trans ?_
  · intro b hb
    match b with
    | ⟨0, _⟩ => exact absurd rfl hb
    | ⟨1, _⟩ => rfl
    | ⟨2, _⟩ => rfl
    | ⟨3, _⟩ => rfl
  · rfl
  · rw [val_main_v8_apply]
    have e : idx_main_v8 (ix4 (0 : Fin 1) a t j) = ix3 a t j := eq_ix3 _
    rw [e]
    rfl

/-- The reshape into blocks of eight sends an entry to its block and its place in it. -/
theorem x0_split (n : Fin 2) (a : Fin 4) (t : Fin 2560) (j : Fin 2048) :
    idx_main_v40 (ix4 n a t j) = ix5 n a t (⟨j.val / 8, by omega⟩ : Fin 256) (⟨j.val % 8, by omega⟩ : Fin 8) :=
  funext fun x => match x with
    | ⟨0, _⟩ => Fin.ext (by have := n.isLt; have := a.isLt; have := t.isLt; have := j.isLt; show (((n.val * 4 + a.val) * 2560 + t.val) * 2048 + j.val) / 20971520 = n.val; omega)
    | ⟨1, _⟩ => Fin.ext (by have := n.isLt; have := a.isLt; have := t.isLt; have := j.isLt; show (((n.val * 4 + a.val) * 2560 + t.val) * 2048 + j.val) / 5242880 % 4 = a.val; omega)
    | ⟨2, _⟩ => Fin.ext (by have := n.isLt; have := a.isLt; have := t.isLt; have := j.isLt; show (((n.val * 4 + a.val) * 2560 + t.val) * 2048 + j.val) / 2048 % 2560 = t.val; omega)
    | ⟨3, _⟩ => Fin.ext (by have := n.isLt; have := a.isLt; have := t.isLt; have := j.isLt; show (((n.val * 4 + a.val) * 2560 + t.val) * 2048 + j.val) / 8 % 256 = j.val / 8; omega)
    | ⟨4, _⟩ => Fin.ext (by have := n.isLt; have := a.isLt; have := t.isLt; have := j.isLt; show (((n.val * 4 + a.val) * 2560 + t.val) * 2048 + j.val) % 8 = j.val % 8; omega)

/-- The reshape out of blocks of eight sends a block and a place in it back to the entry. -/
theorem x0_join (n : Fin 2) (a : Fin 4) (t : Fin 2560) (j : Fin 2048) :
    idx_main_v35 (ix5 n a t (⟨j.val / 8, by omega⟩ : Fin 256) (⟨j.val % 8, by omega⟩ : Fin 8)) = ix4 n a t j :=
  funext fun x => match x with
    | ⟨0, _⟩ => Fin.ext (by have := n.isLt; have := a.isLt; have := t.isLt; have := j.isLt; show ((((n.val * 4 + a.val) * 2560 + t.val) * 256 + j.val / 8) * 8 + j.val % 8) / 20971520 = n.val; omega)
    | ⟨1, _⟩ => Fin.ext (by have := n.isLt; have := a.isLt; have := t.isLt; have := j.isLt; show ((((n.val * 4 + a.val) * 2560 + t.val) * 256 + j.val / 8) * 8 + j.val % 8) / 5242880 % 4 = a.val; omega)
    | ⟨2, _⟩ => Fin.ext (by have := n.isLt; have := a.isLt; have := t.isLt; have := j.isLt; show ((((n.val * 4 + a.val) * 2560 + t.val) * 256 + j.val / 8) * 8 + j.val % 8) / 2048 % 2560 = t.val; omega)
    | ⟨3, _⟩ => Fin.ext (by have := n.isLt; have := a.isLt; have := t.isLt; have := j.isLt; show ((((n.val * 4 + a.val) * 2560 + t.val) * 256 + j.val / 8) * 8 + j.val % 8) % 2048 = j.val; omega)

/-- A stacked value is its code's value times its block's scale. -/
theorem x0_scaled (x0 : S4x2560x2048.Idx → BitVec 8) (r0 : S4x2560x256.Idx → EReal) (n : Fin 2) (a : Fin 4) (t : Fin 2560) (j : Fin 2048) :
    val_main_v40 (F := Ideal) x0 r0 (ix4 n a t j)
      = code (val_main_v9 (F := Ideal) x0 (ix4 n a t j)) * r0 (ix3 a t (⟨j.val / 8, by omega⟩ : Fin 256)) := by
  rw [val_main_v40_apply, x0_split, val_main_v39_apply, val_main_v35_apply, x0_join, x0_code, val_main_v38_apply, val_main_v37_apply, val_main_v36_apply]
  exact congrArg (fun q => code _ * r0 q) (eq_ix3 _)

/-- The first of the two stacked arrays is the low half. -/
theorem x0_lo_idx (a : Fin 4) (t : Fin 2560) (j : Fin 2048) :
    idx_main_v41 (idx_main_v42 (ix3 a t j)) = ix4 (0 : Fin 2) a t j :=
  funext fun x => match x with
    | ⟨0, _⟩ => Fin.ext (by have := a.isLt; have := t.isLt; have := j.isLt; show 0 = 0; omega)
    | ⟨1, _⟩ => Fin.ext (by have := a.isLt; have := t.isLt; have := j.isLt; show ((a.val * 2560 + t.val) * 2048 + j.val) / 5242880 % 4 = a.val; omega)
    | ⟨2, _⟩ => Fin.ext (by have := a.isLt; have := t.isLt; have := j.isLt; show ((a.val * 2560 + t.val) * 2048 + j.val) / 2048 % 2560 = t.val; omega)
    | ⟨3, _⟩ => Fin.ext (by have := a.isLt; have := t.isLt; have := j.isLt; show ((a.val * 2560 + t.val) * 2048 + j.val) % 2048 = j.val; omega)

/-- The low half: the nibble's value times its block's scale. -/
theorem x0_lo (x0 : S4x2560x2048.Idx → BitVec 8) (r0 : S4x2560x256.Idx → EReal) (a : Fin 4) (t : Fin 2560) (j : Fin 2048) :
    val_main_v42 (F := Ideal) x0 r0 (ix3 a t j) = ((loVal (x0 (ix3 a t j)) : ℝ) : EReal) * r0 (ix3 a t (⟨j.val / 8, by omega⟩ : Fin 256)) := by
  rw [val_main_v42_apply, val_main_v41_apply, x0_lo_idx, x0_scaled, x0_lo_word, code_lo]

/-- The second of the two stacked arrays is the high half. -/
theorem x0_hi_idx (a : Fin 4) (t : Fin 2560) (j : Fin 2048) :
    idx_main_v43 (idx_main_v44 (ix3 a t j)) = ix4 (1 : Fin 2) a t j :=
  funext fun x => match x with
    | ⟨0, _⟩ => Fin.ext (by have := a.isLt; have := t.isLt; have := j.isLt; show 1 + 0 = 1; omega)
    | ⟨1, _⟩ => Fin.ext (by have := a.isLt; have := t.isLt; have := j.isLt; show ((a.val * 2560 + t.val) * 2048 + j.val) / 5242880 % 4 = a.val; omega)
    | ⟨2, _⟩ => Fin.ext (by have := a.isLt; have := t.isLt; have := j.isLt; show ((a.val * 2560 + t.val) * 2048 + j.val) / 2048 % 2560 = t.val; omega)
    | ⟨3, _⟩ => Fin.ext (by have := a.isLt; have := t.isLt; have := j.isLt; show ((a.val * 2560 + t.val) * 2048 + j.val) % 2048 = j.val; omega)

/-- The high half: the nibble's value times its block's scale. -/
theorem x0_hi (x0 : S4x2560x2048.Idx → BitVec 8) (r0 : S4x2560x256.Idx → EReal) (a : Fin 4) (t : Fin 2560) (j : Fin 2048) :
    val_main_v44 (F := Ideal) x0 r0 (ix3 a t j) = ((hiVal (x0 (ix3 a t j)) : ℝ) : EReal) * r0 (ix3 a t (⟨j.val / 8, by omega⟩ : Fin 256)) := by
  rw [val_main_v44_apply, val_main_v43_apply, x0_hi_idx, x0_scaled, x0_hi_word, code_hi]

/-! ### The weights -/

/-- The chain of tests and selects gives the value of a weight code word. -/
theorem x3_code (x3 : S3584x2048.Idx → BitVec 8) (i : S2x3584x2048.Idx) :
    val_main_v76 (F := Ideal) x3 i = code (val_main_v51 (F := Ideal) x3 i) := by
  simp only [val_main_v76_apply, val_main_v75_apply, val_main_v74_apply, val_main_v73_apply, val_main_v72_apply, val_main_v71_apply,
    val_main_v70_apply, val_main_v69_apply, val_main_v68_apply, val_main_v67_apply, val_main_v63_apply, val_main_v59_apply,
    val_main_v55_apply, val_main_v53_apply, val_main_v57_apply, val_main_v61_apply, val_main_v65_apply, val_main_v52_apply,
    val_main_v54_apply, val_main_v56_apply, val_main_v58_apply, val_main_v60_apply, val_main_v62_apply, val_main_v64_apply,
    val_main_v66_apply, val_main_call8_v0_apply, val_main_call8_v1_apply, val_main_call9_v0_apply, val_main_call9_v1_apply,
    val_main_call10_v0_apply, val_main_call10_v1_apply, val_main_call11_v0_apply, val_main_call11_v1_apply]
  rfl

/-- The stacked words: the low nibbles first. -/
theorem x3_lo_word (x3 : S3584x2048.Idx → BitVec 8) (o : Fin 3584) (j : Fin 2048) :
    val_main_v51 (F := Ideal) x3 (ix3 (0 : Fin 2) o j) = IntOp.andi ((x3 (ix2 o j)).setWidth 32) 15#32 := by
  unfold val_main_v51
  refine (concatenate_pair_apply_left (s₁ := S1x3584x2048) (s₂ := S1x3584x2048) (t := S2x3584x2048) 0 (val_main_v49 (F := Ideal) x3)
    (val_main_v50 (F := Ideal) x3) concatenates_S1x3584x2048_S1x3584x2048_S2x3584x2048_d0 (ix3 (0 : Fin 2) o j) rfl (ix3 (0 : Fin 1) o j) ?_).trans ?_
  · intro b
    match b with
    | ⟨0, _⟩ => rfl
    | ⟨1, _⟩ => rfl
    | ⟨2, _⟩ => rfl
  · rw [val_main_v49_apply]
    have e : idx_main_v49 (ix3 (0 : Fin 1) o j) = ix2 o j := eq_ix2 _
    rw [e]
    rfl

/-- The stacked words: the high nibbles second. -/
theorem x3_hi_word (x3 : S3584x2048.Idx → BitVec 8) (o : Fin 3584) (j : Fin 2048) :
    val_main_v51 (F := Ideal) x3 (ix3 (1 : Fin 2) o j) = IntOp.shrsi .host ((x3 (ix2 o j)).setWidth 32) 4#32 := by
  unfold val_main_v51
  refine (concatenate_pair_apply_right (s₁ := S1x3584x2048) (s₂ := S1x3584x2048) (t := S2x3584x2048) 0 (val_main_v49 (F := Ideal) x3)
    (val_main_v50 (F := Ideal) x3) concatenates_S1x3584x2048_S1x3584x2048_S2x3584x2048_d0 (ix3 (1 : Fin 2) o j) rfl rfl (ix3 (0 : Fin 1) o j) ?_ ?_).trans ?_
  · intro b hb
    match b with
    | ⟨0, _⟩ => exact absurd rfl hb
    | ⟨1, _⟩ => rfl
    | ⟨2, _⟩ => rfl
  · rfl
  · rw [val_main_v50_apply]
    have e : idx_main_v50 (ix3 (0 : Fin 1) o j) = ix2 o j := eq_ix2 _
    rw [e]
    rfl

/-- The reshape into blocks of eight sends an entry to its block and its place in it. -/
theorem x3_split (n : Fin 2) (o : Fin 3584) (j : Fin 2048) :
    idx_main_v82 (ix3 n o j) = ix4 n o (⟨j.val / 8, by omega⟩ : Fin 256) (⟨j.val % 8, by omega⟩ : Fin 8) :=
  funext fun x => match x with
    | ⟨0, _⟩ => Fin.ext (by have := n.isLt; have := o.isLt; have := j.isLt; show ((n.val * 3584 + o.val) * 2048 + j.val) / 7340032 = n.val; omega)
    | ⟨1, _⟩ => Fin.ext (by have := n.isLt; have := o.isLt; have := j.isLt; show ((n.val * 3584 + o.val) * 2048 + j.val) / 2048 % 3584 = o.val; omega)
    | ⟨2, _⟩ => Fin.ext (by have := n.isLt; have := o.isLt; have := j.isLt; show ((n.val * 3584 + o.val) * 2048 + j.val) / 8 % 256 = j.val / 8; omega)
    | ⟨3, _⟩ => Fin.ext (by have := n.isLt; have := o.isLt; have := j.isLt; show ((n.val * 3584 + o.val) * 2048 + j.val) % 8 = j.val % 8; omega)

/-- The reshape out of blocks of eight sends a block and a place in it back to the entry. -/
theorem x3_join (n : Fin 2) (o : Fin 3584) (j : Fin 2048) :
    idx_main_v77 (ix4 n o (⟨j.val / 8, by omega⟩ : Fin 256) (⟨j.val % 8, by omega⟩ : Fin 8)) = ix3 n o j :=
  funext fun x => match x with
    | ⟨0, _⟩ => Fin.ext (by have := n.isLt; have := o.isLt; have := j.isLt; show (((n.val * 3584 + o.val) * 256 + j.val / 8) * 8 + j.val % 8) / 7340032 = n.val; omega)
    | ⟨1, _⟩ => Fin.ext (by have := n.isLt; have := o.isLt; have := j.isLt; show (((n.val * 3584 + o.val) * 256 + j.val / 8) * 8 + j.val % 8) / 2048 % 3584 = o.val; omega)
    | ⟨2, _⟩ => Fin.ext (by have := n.isLt; have := o.isLt; have := j.isLt; show (((n.val * 3584 + o.val) * 256 + j.val / 8) * 8 + j.val % 8) % 2048 = j.val; omega)

/-- A stacked value is its code's value times its block's scale. -/
theorem x3_scaled (x3 : S3584x2048.Idx → BitVec 8) (r1 : S3584x256.Idx → EReal) (n : Fin 2) (o : Fin 3584) (j : Fin 2048) :
    val_main_v82 (F := Ideal) x3 r1 (ix3 n o j)
      = code (val_main_v51 (F := Ideal) x3 (ix3 n o j)) * r1 (ix2 o (⟨j.val / 8, by omega⟩ : Fin 256)) := by
  rw [val_main_v82_apply, x3_split, val_main_v81_apply, val_main_v77_apply, x3_join, x3_code, val_main_v80_apply, val_main_v79_apply, val_main_v78_apply]
  exact congrArg (fun q => code _ * r1 q) (eq_ix2 _)

/-- The first of the two stacked arrays is the low half. -/
theorem x3_lo_idx (o : Fin 3584) (j : Fin 2048) :
    idx_main_v83 (idx_main_v84 (ix2 o j)) = ix3 (0 : Fin 2) o j :=
  funext fun x => match x with
    | ⟨0, _⟩ => Fin.ext (by have := o.isLt; have := j.isLt; show 0 = 0; omega)
    | ⟨1, _⟩ => Fin.ext (by have := o.isLt; have := j.isLt; show (o.val * 2048 + j.val) / 2048 % 3584 = o.val; omega)
    | ⟨2, _⟩ => Fin.ext (by have := o.isLt; have := j.isLt; show (o.val * 2048 + j.val) % 2048 = j.val; omega)

/-- The low half: the nibble's value times its block's scale. -/
theorem x3_lo (x3 : S3584x2048.Idx → BitVec 8) (r1 : S3584x256.Idx → EReal) (o : Fin 3584) (j : Fin 2048) :
    val_main_v84 (F := Ideal) x3 r1 (ix2 o j) = ((loVal (x3 (ix2 o j)) : ℝ) : EReal) * r1 (ix2 o (⟨j.val / 8, by omega⟩ : Fin 256)) := by
  rw [val_main_v84_apply, val_main_v83_apply, x3_lo_idx, x3_scaled, x3_lo_word, code_lo]

/-- The second of the two stacked arrays is the high half. -/
theorem x3_hi_idx (o : Fin 3584) (j : Fin 2048) :
    idx_main_v85 (idx_main_v86 (ix2 o j)) = ix3 (1 : Fin 2) o j :=
  funext fun x => match x with
    | ⟨0, _⟩ => Fin.ext (by have := o.isLt; have := j.isLt; show 1 + 0 = 1; omega)
    | ⟨1, _⟩ => Fin.ext (by have := o.isLt; have := j.isLt; show (o.val * 2048 + j.val) / 2048 % 3584 = o.val; omega)
    | ⟨2, _⟩ => Fin.ext (by have := o.isLt; have := j.isLt; show (o.val * 2048 + j.val) % 2048 = j.val; omega)

/-- The high half: the nibble's value times its block's scale. -/
theorem x3_hi (x3 : S3584x2048.Idx → BitVec 8) (r1 : S3584x256.Idx → EReal) (o : Fin 3584) (j : Fin 2048) :
    val_main_v86 (F := Ideal) x3 r1 (ix2 o j) = ((hiVal (x3 (ix2 o j)) : ℝ) : EReal) * r1 (ix2 o (⟨j.val / 8, by omega⟩ : Fin 256)) := by
  rw [val_main_v86_apply, val_main_v85_apply, x3_hi_idx, x3_scaled, x3_hi_word, code_hi]

end Cert.ReferenceIdeal.Model
-- ==== Proof.RefScales.lean ====
/-
  Hand-written, untrusted. The reference's one region, which casts the two arrays of scales: read at the extended reals the cast is
  the identity, so the two arrays it leaves are the arguments themselves.
-/
module

public import proofs.«01_k».proof.Proof.Gen.ReferenceIdeal.Read
public import Idealize.ShloMosaic.Lib.Pipeline.ValueKit

@[expose] public section

set_option maxRecDepth 16384

noncomputable section

namespace Cert.ReferenceIdeal.Model

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ)

/-- The region's one point. -/
def pt : Fin cfg0.N := ⟨0, by decide⟩

/-- Each argument's window is the whole array. -/
theorem index_X : ∀ t : Fin cfg0.N, win0_0.index t = ![0, 0, 0] := by decide +kernel

/-- The weights' window is the whole array. -/
theorem index_W : ∀ t : Fin cfg0.N, win0_1.index t = ![0, 0] := by decide +kernel

/-- The region is handed the activations' scales. -/
theorem scales_x_block (c : Dev nD) : iblk m c 0 pt = m ((c : Thread nD τ).loc main_arg1) := by
  blk_ext! [iblk, V, index_X pt]

/-- The region is handed the weights' scales. -/
theorem scales_w_block (c : Dev nD) : iblk m c 1 pt = m ((c : Thread nD τ).loc main_arg4) := by
  blk_ext! [iblk, V, index_W pt]

/-- The cast scales of the activations are the scales. -/
theorem scales_x (c : Dev nD) (i : S4x2560x256.Idx) : Value.reg_main_v0_0 m c i = m ((c : Thread nD τ).loc main_arg1) i := by
  unfold Value.reg_main_v0_0
  refine congrFun ((dats m 0 c).arrAt_eq_of_after_last 2 pt (by decide +kernel) (fun i => m ((c : Thread nD τ).loc main_arg1) i) fun j => ?_) i
  blk_simp
  rw [after0_2]
  frame_out
  rw [scales_x_block]
  rfl

/-- The cast scales of the weights are the scales. -/
theorem scales_w (c : Dev nD) (i : S3584x256.Idx) : Value.reg_main_v0_1 m c i = m ((c : Thread nD τ).loc main_arg4) i := by
  unfold Value.reg_main_v0_1
  refine congrFun ((dats m 0 c).arrAt_eq_of_after_last 3 pt (by decide +kernel) (fun i => m ((c : Thread nD τ).loc main_arg4) i) fun j => ?_) i
  blk_simp
  rw [after0_3]
  frame_out
  rw [scales_w_block]
  rfl

end Cert.ReferenceIdeal.Model
-- ==== Proof.Segment.lean ====
/-
  Hand-written, untrusted. A row's gain, in the kernel and in the reference. The kernel takes the gain of the last of the eight
  segments that starts at or before the row; the reference counts the segments that start at or before the row and reads the gain at
  that count less one. When the starts ascend from a first that is at most zero, the two are one gain.
-/
module

public import proofs.«01_k».proof.Proof.Block
public import proofs.«01_k».proof.Proof.Gen.ReferenceIdeal.Read
public import proofs.«01_k».proof.Pre_seg_starts_sorted
public import Idealize.ShloMosaic.Lib.StableHlo.Predicate
public import Idealize.ShloMosaic.Lib.Routing.OpsSet
public import Idealize.ShloMosaic.Lib.WordArith

@[expose] public section

set_option maxRecDepth 16384

noncomputable section

namespace Cert.Segment

open Idealize.ShloMosaic Idealize.ShloMosaic.TcCoe Idealize.SL.Sem Idealize.ShloMosaic.ValueIdx
open Cert.ReferenceIdeal Cert.ReferenceIdeal.Gen Cert.ReferenceIdeal.Read
open Cert.KernelIdeal.Decode (pick rowGain)

/-- The side conditions the precondition's operations state. -/
theorem preFacts : Cert.Pre_seg_starts_sorted.Facts where
  slices_S8_S7_0 := by decide
  slices_S8_S7_1 := by decide
  slices_S8_S1_0 := by decide
  bcast_S_S1 := by decide
  bcast_S1_S7_0 := by decide

/-- The segment starts ascend, from a first that is at most zero. -/
def Sorted (s : S8.Idx → BitVec 32) : Prop :=
  (s (ix1 0)).sle 0#32 = true ∧ ∀ k : Fin 7, (s (ix1 k.castSucc)).sle (s (ix1 k.succ)) = true

/-- The precondition is that the segment starts are sorted. -/
theorem sorted_of_pre [Cert.Pre_seg_starts_sorted.Facts] (a0 : S4x2560x2048.Idx → BitVec 8) (a1 : S4x2560x256.Idx → EReal) (a2 : S8.Idx → EReal)
    (a3 : S3584x2048.Idx → BitVec 8) (a4 : S3584x256.Idx → EReal) (a5 : S1.Idx → EReal) (s : S8.Idx → BitVec 32)
    (h : Cert.Pre_seg_starts_sorted.fn (F := Ideal) a0 a1 a2 a3 a4 a5 s = fun _ => 1#1) : Sorted s := by
  have key : ∀ k : Fin 7, (s (ix1 k.castSucc)).sle (s (ix1 k.succ)) = true ∧ (s (ix1 0)).sle 0#32 = true := by
    intro k
    have hk := congrFun h (ix1 k)
    change IntOp.andi (IntOp.cmpi .sle (extractStridedSlice Cert.Pre_seg_starts_sorted.S7 ![0] s _ (ix1 k))
        (extractStridedSlice Cert.Pre_seg_starts_sorted.S7 ![1] s _ (ix1 k)))
      (broadcastInDim Cert.Pre_seg_starts_sorted.S7 ![0] _ (cmpi .sle (extractStridedSlice Cert.Pre_seg_starts_sorted.S1 ![0] s _)
        (broadcastInDim Cert.Pre_seg_starts_sorted.S1 ![] _ (constantI Cert.Pre_seg_starts_sorted.S_ 32 0#32))) (ix1 k)) = 1#1 at hk
    rw [extractStridedSlice_apply ![0] s _ (ix1 k) (ix1 k.castSucc) (fun a => match a with
        | ⟨0, _⟩ => by show k.val = 0 + k.val; omega),
      extractStridedSlice_apply ![1] s _ (ix1 k) (ix1 k.succ) (fun a => match a with
        | ⟨0, _⟩ => by show k.val + 1 = 1 + k.val; omega),
      broadcastInDim_apply _ _ _ (ix1 k) (ix1 (0 : Fin 1)) (fun a => match a with
        | ⟨0, _⟩ => by show 0 = if (1 : Nat) = 1 then 0 else k.val; rw [if_pos rfl])] at hk
    change IntOp.andi (BitVec.ofBool _) (IntOp.cmpi .sle (extractStridedSlice Cert.Pre_seg_starts_sorted.S1 ![0] s _ (ix1 (0 : Fin 1))) 0#32)
      = 1#1 at hk
    rw [extractStridedSlice_apply ![0] s _ (ix1 (0 : Fin 1)) (ix1 (0 : Fin 8)) (fun a => match a with
        | ⟨0, _⟩ => by show 0 = 0 + 0; omega)] at hk
    change IntOp.andi (BitVec.ofBool ((s (ix1 k.castSucc)).sle (s (ix1 k.succ)))) (BitVec.ofBool ((s (ix1 0)).sle 0#32)) = 1#1 at hk
    revert hk
    cases (s (ix1 k.castSucc)).sle (s (ix1 k.succ)) <;> cases (s (ix1 0)).sle 0#32 <;> decide
  exact ⟨(key 0).2, fun k => (key k).1⟩

/-- A selection by a truth value is a conditional on it. -/
theorem select_ofBool {α : Type} (b : Bool) (x y : α) : Scalar.select (BitVec.ofBool b) x y = if b then x else y := by
  cases b <;> rfl

/-- Among eight truth values that hold up to some place and fail after it, the last that holds is the one at their count less one. -/
theorem last_true (q : Fin 8 → Bool) (h0 : q 0 = true) (hq : ∀ k : Fin 7, q k.succ = true → q k.castSucc = true) (g : Fin 8 → EReal) :
    ∃ b : Fin 8, (Finset.univ.filter fun p : Fin 8 => BitVec.ofBool (q p) = 1#1).card = b.val + 1
      ∧ (if q 7 then g 7 else if q 6 then g 6 else if q 5 then g 5 else if q 4 then g 4 else if q 3 then g 3
          else if q 2 then g 2 else if q 1 then g 1 else g 0) = g b := by
  have e : ∀ p : Fin 8, (BitVec.ofBool (q p) = 1#1) = (q p = true) := fun p => by cases q p <;> simp
  have s0 : q 1 = true → q 0 = true := hq 0
  have s1 : q 2 = true → q 1 = true := hq 1
  have s2 : q 3 = true → q 2 = true := hq 2
  have s3 : q 4 = true → q 3 = true := hq 3
  have s4 : q 5 = true → q 4 = true := hq 4
  have s5 : q 6 = true → q 5 = true := hq 5
  have s6 : q 7 = true → q 6 = true := hq 6
  simp only [e, Finset.card_filter, Fin.sum_univ_eight, h0]
  clear e hq h0 s0
  generalize q 1 = b1 at *; generalize q 2 = b2 at *; generalize q 3 = b3 at *; generalize q 4 = b4 at *
  generalize q 5 = b5 at *; generalize q 6 = b6 at *; generalize q 7 = b7 at *
  cases b7
  · cases b6
    · cases b5
      · cases b4
        · cases b3
          · cases b2
            · cases b1
              · exact ⟨0, by simp, by simp⟩
              · exact ⟨1, by simp, by simp⟩
            · simp_all; exact ⟨2, by simp, rfl⟩
          · simp_all; exact ⟨3, by simp, rfl⟩
        · simp_all; exact ⟨4, by simp, rfl⟩
      · simp_all; exact ⟨5, by simp, rfl⟩
    · simp_all; exact ⟨6, by simp, rfl⟩
  · simp_all; exact ⟨7, by simp, rfl⟩

/-- With sorted starts, the kernel's gain of a row is the one at the count, less one, of the starts at or before the row. -/
theorem rowGain_count (s : S8.Idx → BitVec 32) (g : S8.Idx → EReal) (hs : Sorted s) (t : Fin 10240) :
    ∃ b : Fin 8, (Finset.univ.filter fun p : Fin 8 => BitVec.ofBool ((s (ix1 p)).sle (BitVec.ofNat 32 t.val)) = 1#1).card = b.val + 1
      ∧ rowGain s g (BitVec.ofNat 32 t.val) = g (ix1 b) := by
  have hle : ∀ x y : BitVec 32, x.sle y = true ↔ x.toInt ≤ y.toInt := fun x y => by simp [BitVec.sle]
  have ht : (0#32).toInt ≤ (BitVec.ofNat 32 t.val).toInt := by
    rw [StableHlo.Predicate.toInt_ofNat_small t.val (by omega)]; simp
  have h0 : (s (ix1 0)).sle (BitVec.ofNat 32 t.val) = true := (hle _ _).mpr (((hle _ _).mp hs.1).trans ht)
  obtain ⟨b, hb, hg⟩ := last_true (fun p => (s (ix1 p)).sle (BitVec.ofNat 32 t.val)) h0
    (fun k hk => (hle _ _).mpr (((hle _ _).mp (hs.2 k)).trans ((hle _ _).mp hk))) (fun p => g (ix1 p))
  refine ⟨b, hb, Eq.trans ?_ hg⟩
  unfold rowGain pick
  simp only [IntOp.cmpi, select_ofBool]

/-- The word the reference reads a gain at is the count less one, when that is one of the eight segments. -/
theorem word_of_count {w : BitVec 32} {b : Fin 8} (h : w.toNat = b.val + 1) :
    Scalar.select (IntOp.cmpi .slt (IntOp.subi w 1#32) 0#32) (IntOp.addi (IntOp.subi w 1#32) 8#32) (IntOp.subi w 1#32) = BitVec.ofNat 32 b.val := by
  have hw : w = BitVec.ofNat 32 (b.val + 1) := BitVec.eq_of_toNat_eq (by rw [h, BitVec.toNat_ofNat]; omega)
  subst hw
  clear h
  revert b
  decide

/-- The reference's mask of the starts at or before each row. -/
theorem mask_apply (s : S8.Idx → BitVec 32) (p : Fin 8) (t : Fin 10240) :
    val_main_call16_call0_v4 (F := Ideal) s (StableHlo.Predicate.ij p t) = BitVec.ofBool ((s (ix1 p)).sle (BitVec.ofNat 32 t.val)) := by
  rw [val_main_call16_call0_v4_apply, val_main_call16_call0_v2_apply, val_main_call16_call0_v1_apply, val_main_call16_call0_v3_apply,
    val_main_call16_call0_v0_apply, val_main_v90_apply]
  exact congrArg (fun q => BitVec.ofBool ((s q).sle (BitVec.ofNat 32 t.val))) (eq_ix1 _)

/-- With sorted starts, the gain the reference reads for a row is the kernel's. -/
theorem gain_read (s : S8.Idx → BitVec 32) (g : S8.Idx → EReal) (hs : Sorted s) (t : Fin 10240) :
    val_main_v100 (F := Ideal) g s (ix1 t) = rowGain s g (BitVec.ofNat 32 t.val) := by
  obtain ⟨b, hb, hg⟩ := rowGain_count s g hs t
  rw [hg]
  unfold val_main_v100
  refine Routing.gather_take1 gather_S8_S10240x1_S10240_n_0_n_n_0_1_1 rfl rfl rfl rfl g _ t b ?_ (by decide)
  have hc : (val_main_v91 (F := Ideal) s (ix1 t)).toNat = b.val + 1 := by
    refine Eq.trans (StableHlo.Predicate.toNat_reduce_count_rows (by decide) (val_main_call16_call0_v4 (F := Ideal) s) natLt_1_32
      reducesTo_S8x10240_S10240_d0 h_S_ (ix1 t)) (Eq.trans ?_ hb)
    exact congrArg Finset.card (Finset.filter_congr fun p _ => by rw [← mask_apply])
  rw [val_main_v99_apply]
  have e : idx_main_v99 (ix2 t (0 : Fin 1)) = ix1 t := eq_ix1 _
  rw [e, val_main_v98_apply, val_main_v97_apply, val_main_v95_apply, val_main_v96_apply, val_main_v94_apply, val_main_v93_apply,
    val_main_v92_apply]
  exact word_of_count hc

end Cert.Segment
-- ==== Proof.Equation.lean ====
/-
  Hand-written, untrusted. The reference's result at an index, and that it is the kernel's. The reference adds a product over the low
  halves and one over the high halves; the kernel takes one product over rows of 4096, low half then high half. The kernel reads a
  code through an fp8 pattern worth a sixty-fourth of its value, on both sides, and puts 4096 into the weights' scales; the three
  factors cancel.
-/
module

public import proofs.«01_k».proof.Proof.KernelValue
public import proofs.«01_k».proof.Proof.RefDecode
public import proofs.«01_k».proof.Proof.RefScales
public import proofs.«01_k».proof.Proof.Segment
public import proofs.«01_k».proof.Proof.Gen.ReferenceIdeal.Run

@[expose] public section

set_option maxRecDepth 16384

noncomputable section

namespace Cert.Equation

open Idealize.ShloMosaic hiding ix1 ix2 ix3 eq_ix1 eq_ix2 eq_ix3
open Idealize.ShloMosaic.TcCoe Idealize.SL.Sem Idealize.ShloMosaic.ValueIdx
open Cert.ReferenceIdeal Cert.ReferenceIdeal.Gen Cert.ReferenceIdeal.Read Cert.ReferenceIdeal.Model Cert.Codes Cert.Segment
open Cert.KernelIdeal.Decode (dec decW result rowGain gain)

/-- The gain is 4096. -/
theorem gain_val : gain = ((4096 : ℝ) : EReal) := by
  unfold gain
  simp [Ideal.ofBits, Ideal.ieee, BitVec.extractLsb', -EReal.coe_mul, Nat.shiftRight_eq_div_pow]; try norm_num

/-- The three constant factors cancel. -/
theorem cancel (a b : ℝ) (s w : EReal) :
    (((a / 64 : ℝ) : EReal) * s) * (((b / 64 : ℝ) : EReal) * (w * gain)) = ((a : EReal) * s) * ((b : EReal) * w) := by
  rw [gain_val]
  have e : ((a / 64 : ℝ) : EReal) * (((b / 64 : ℝ) : EReal) * ((4096 : ℝ) : EReal)) = (a : EReal) * (b : EReal) := by
    rw [← EReal.coe_mul, ← EReal.coe_mul, ← EReal.coe_mul]
    congr 1
    ring
  calc (((a / 64 : ℝ) : EReal) * s) * (((b / 64 : ℝ) : EReal) * (w * ((4096 : ℝ) : EReal)))
      = (((a / 64 : ℝ) : EReal) * (((b / 64 : ℝ) : EReal) * ((4096 : ℝ) : EReal))) * (s * w) := by ac_rfl
    _ = ((a : EReal) * (b : EReal)) * (s * w) := by rw [e]
    _ = ((a : EReal) * s) * ((b : EReal) * w) := by ac_rfl

/-- A sum over 4096 is the sum over the first 2048 and the sum over the last. -/
theorem sum_halves (f : Fin 4096 → EReal) :
    ∑ k, f k = ∑ k : Fin 2048, f ⟨k.val, by omega⟩ + ∑ k : Fin 2048, f ⟨2048 + k.val, by omega⟩ :=
  Fin.sum_univ_add (a := 2048) (b := 2048) f

/-- The decoded array in its low half. -/
theorem dec_lo {R : Nat} (cd : (⟨2, ![R, 2048]⟩ : Shape).Idx → BitVec 8) (sc : (⟨2, ![R, 256]⟩ : Shape).Idx → EReal) (r : Fin R) (k : Fin 2048) :
    dec cd sc (ix2 r (⟨k.val, by omega⟩ : Fin 4096)) = ((loVal (cd (ix2 r k)) / 64 : ℝ) : EReal) * sc (ix2 r (⟨k.val / 8, by omega⟩ : Fin 256)) :=
  (dif_pos k.isLt).trans (congrArg (· * sc (ix2 r (⟨k.val / 8, by omega⟩ : Fin 256))) (lo_value (cd (ix2 r k))))

/-- The decoded array in its high half. -/
theorem dec_hi {R : Nat} (cd : (⟨2, ![R, 2048]⟩ : Shape).Idx → BitVec 8) (sc : (⟨2, ![R, 256]⟩ : Shape).Idx → EReal) (r : Fin R) (k : Fin 2048) :
    dec cd sc (ix2 r (⟨2048 + k.val, by omega⟩ : Fin 4096)) = ((hiVal (cd (ix2 r k)) / 64 : ℝ) : EReal) * sc (ix2 r (⟨k.val / 8, by omega⟩ : Fin 256)) := by
  refine (dif_neg (show ¬ (2048 + k.val < 2048) by omega)).trans ?_
  have e : ∀ h : 2048 + k.val - 2048 < 2048, (⟨2048 + k.val - 2048, h⟩ : Fin 2048) = k := fun h => Fin.ext (by show 2048 + k.val - 2048 = k.val; omega)
  have e' : ∀ h : (2048 + k.val - 2048) / 8 < 256, (⟨(2048 + k.val - 2048) / 8, h⟩ : Fin 256) = ⟨k.val / 8, by omega⟩ :=
    fun h => Fin.ext (by show (2048 + k.val - 2048) / 8 = k.val / 8; rw [Nat.add_sub_cancel_left])
  have hc : Ideal.ofBits .fp8e4m3 (hiByte (cd (ix2 r (⟨2048 + k.val - 2048, by omega⟩ : Fin 2048)))) = ((hiVal (cd (ix2 r k)) / 64 : ℝ) : EReal) := by
    rw [e, hi_value]
  exact congrArg₂ (· * ·) hc (congrArg (fun q => sc (ix2 r q)) (e' (by omega)))

/-- Row `r` of 10240, as a batch entry and a row of 2560. -/
def batch (r : Fin 10240) : Fin 4 := ⟨r.val / 2560, by omega⟩
/-- The row within the batch entry. -/
def inner (r : Fin 10240) : Fin 2560 := ⟨r.val % 2560, by omega⟩

/-- The reshaped codes at a row are the codes of its batch entry and row. -/
theorem codes_row (x : S4x2560x2048.Idx → BitVec 8) (r : Fin 10240) (k : Fin 2048) (h : S4x2560x2048.ShapeCasts Cert.KernelIdeal.S10240x2048) :
    shapeCast Cert.KernelIdeal.S10240x2048 x h (ix2 r k) = x (ix3 (batch r) (inner r) k) :=
  shapeCast_apply x h (ix2 r k) (ix3 (batch r) (inner r) k) (by
    rewrite [Shape.rowMajor_val_three, Shape.rowMajor_val_two]
    show (r.val / 2560 * 2560 + r.val % 2560) * 2048 + k.val = r.val * 2048 + k.val
    omega)

/-- The reshaped scales at a row are the scales of its batch entry and row. -/
theorem scales_row (x : S4x2560x256.Idx → EReal) (r : Fin 10240) (k : Fin 256) (h : S4x2560x256.ShapeCasts Cert.KernelIdeal.S10240x256) :
    shapeCast Cert.KernelIdeal.S10240x256 x h (ix2 r k) = x (ix3 (batch r) (inner r) k) :=
  shapeCast_apply x h (ix2 r k) (ix3 (batch r) (inner r) k) (by
    rewrite [Shape.rowMajor_val_three, Shape.rowMajor_val_two]
    show (r.val / 2560 * 2560 + r.val % 2560) * 256 + k.val = r.val * 256 + k.val
    omega)

/-- The reference's two products, added. -/
theorem products (x0 : S4x2560x2048.Idx → BitVec 8) (x3 : S3584x2048.Idx → BitVec 8) (r0 : S4x2560x256.Idx → EReal) (r1 : S3584x256.Idx → EReal)
    (a : Fin 4) (t : Fin 2560) (o : Fin 3584) :
    val_main_v89 (F := Ideal) x0 x3 r0 r1 (ix3 a t o)
      = ∑ k : Fin 2048, (((loVal (x0 (ix3 a t k)) : ℝ) : EReal) * r0 (ix3 a t (⟨k.val / 8, by omega⟩ : Fin 256)))
            * (((loVal (x3 (ix2 o k)) : ℝ) : EReal) * r1 (ix2 o (⟨k.val / 8, by omega⟩ : Fin 256)))
        + ∑ k : Fin 2048, (((hiVal (x0 (ix3 a t k)) : ℝ) : EReal) * r0 (ix3 a t (⟨k.val / 8, by omega⟩ : Fin 256)))
            * (((hiVal (x3 (ix2 o k)) : ℝ) : EReal) * r1 (ix2 o (⟨k.val / 8, by omega⟩ : Fin 256))) := by
  rw [val_main_v89_apply, val_main_v87_apply, val_main_v88_apply]
  refine congrArg₂ (· + ·) (Finset.sum_congr rfl fun k _ => ?_) (Finset.sum_congr rfl fun k _ => ?_)
  · have el : lidx_main_v87 (ix3 a t o) k = ix3 a t k := eq_ix3 _
    have er : ridx_main_v87 (ix3 a t o) k = ix2 o k := eq_ix2 _
    rw [el, er, x0_lo, x3_lo]
  · have el : lidx_main_v88 (ix3 a t o) k = ix3 a t k := eq_ix3 _
    have er : ridx_main_v88 (ix3 a t o) k = ix2 o k := eq_ix2 _
    rw [el, er, x0_hi, x3_hi]

/-- The kernel's one product is the reference's two, added. -/
theorem product (x0 : S4x2560x2048.Idx → BitVec 8) (x3 : S3584x2048.Idx → BitVec 8) (r0 : S4x2560x256.Idx → EReal) (r1 : S3584x256.Idx → EReal)
    (h : S4x2560x2048.ShapeCasts Cert.KernelIdeal.S10240x2048) (h' : S4x2560x256.ShapeCasts Cert.KernelIdeal.S10240x256) (r : Fin 10240) (o : Fin 3584) :
    ∑ k : Fin 4096, dec (R := 10240) (shapeCast Cert.KernelIdeal.S10240x2048 x0 h) (shapeCast Cert.KernelIdeal.S10240x256 r0 h') (ix2 r k) * decW x3 r1 (ix2 o k)
      = val_main_v89 (F := Ideal) x0 x3 r0 r1 (ix3 (batch r) (inner r) o) := by
  rw [products, sum_halves]
  unfold decW
  refine congrArg₂ (· + ·) (Finset.sum_congr rfl fun k _ => ?_) (Finset.sum_congr rfl fun k _ => ?_)
  · rw [dec_lo, dec_lo, codes_row, scales_row, cancel]
  · rw [dec_hi, dec_hi, codes_row, scales_row, cancel]

/-- The factor every element is multiplied by. -/
theorem factor (x5 : S1.Idx → EReal) (i : S4x2560x3584.Idx) : val_main_v105 (F := Ideal) x5 i = x5 (ix1 0) := by
  rw [val_main_v105_apply]
  unfold val_main_v104
  refine shapeCast_apply x5 shapeCasts_S1_S_ _ (ix1 0) ?_
  have h1 := (S1.rowMajor (ix1 0)).isLt
  have h2 := (S_.rowMajor (idx_main_v105 i)).isLt
  have e1 : S1.numel = 1 := by decide
  have e2 : S_.numel = 1 := by decide
  omega

/-- With sorted segment starts the kernel's result is the reference's. -/
theorem result_eq (s : S8.Idx → BitVec 32) (g : S8.Idx → EReal) (h : S1.Idx → EReal) (xc : S4x2560x2048.Idx → BitVec 8)
    (xs : S4x2560x256.Idx → EReal) (wc : S3584x2048.Idx → BitVec 8) (ws : S3584x256.Idx → EReal) (hs : Sorted s) :
    val_main_v108 (F := Ideal) xc g wc h s xs ws = result s g h xc xs wc ws := by
  funext i
  obtain ⟨r, o, rfl⟩ : ∃ (r : Fin 10240) (o : Fin 3584), i = ix2 r o := ⟨i 0, i 1, eq_ix2 i⟩
  have ei : idx_main_v108 (ix2 r o) = ix3 (batch r) (inner r) o := funext fun x => match x with
    | ⟨0, _⟩ => Fin.ext (by have := o.isLt; show (r.val * 3584 + o.val) / 9175040 = r.val / 2560; omega)
    | ⟨1, _⟩ => Fin.ext (by have := o.isLt; show (r.val * 3584 + o.val) / 3584 % 2560 = r.val % 2560; omega)
    | ⟨2, _⟩ => Fin.ext (by have := o.isLt; show (r.val * 3584 + o.val) % 3584 = o.val; omega)
  have er : idx_main_v101 (idx_main_v102 (ix3 (batch r) (inner r) o)) = ix1 r := funext fun x => match x with
    | ⟨0, _⟩ => Fin.ext (by show (r.val / 2560 * 2560 + r.val % 2560) * 1 + 0 = r.val; omega)
  rw [val_main_v108_apply, ei, val_main_v107_apply, val_main_v106_apply, val_main_v103_apply, factor, val_main_v102_apply,
    val_main_v101_apply, er, gain_read s g hs r]
  have hp := product xc wc xs ws Cert.KernelIdeal.Gen.shapeCasts_S4x2560x2048_S10240x2048 Cert.KernelIdeal.Gen.shapeCasts_S4x2560x256_S10240x256 r o
  exact congrArg (fun q => q * rowGain s g (BitVec.ofNat 32 r.val) * h (ix1 0)) hp.symm

variable (m : (ℓ : Loc nD τ sig) → Buf (Elt Ideal) ℓ)

/-- The reference's run, with sorted segment starts: it ends with the kernel's result function of its own arguments. -/
theorem run_reference (ρ : Dev nD → PrngReg) (hs : ∀ c : Dev nD, Sorted (m ((c : Thread nD τ).loc main_arg6))) :
    θ_run defs (onTc (τ := τ) (main (F := Ideal))) ⟨m, fun _ => 0, ρ⟩ fun r => ∀ c : Dev nD,
      r.2.mem ((c : Thread nD τ).loc main_v108)
          = result (m ((c : Thread nD τ).loc main_arg6)) (m ((c : Thread nD τ).loc main_arg2)) (m ((c : Thread nD τ).loc main_arg5))
              (m ((c : Thread nD τ).loc main_arg0)) (m ((c : Thread nD τ).loc main_arg1)) (m ((c : Thread nD τ).loc main_arg3))
              (m ((c : Thread nD τ).loc main_arg4))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6) := by
  refine (θ_run defs _ _).mono (fun r h c => ⟨(h c).1.trans ?_, (h c).2⟩) (Value.run m ρ)
  refine (val_main_v108_eq (F := Ideal) (Value.exitV m c)).trans ?_
  rw [Value.exit_main_arg0, Value.exit_main_arg2, Value.exit_main_arg3, Value.exit_main_arg5, Value.exit_main_arg6, Value.exit_main_v0_0,
    Value.exit_main_v0_1]
  have e0 : Value.reg_main_v0_0 m c = fun i => m ((c : Thread nD τ).loc main_arg1) i := funext (scales_x m c)
  have e1 : Value.reg_main_v0_1 m c = fun i => m ((c : Thread nD τ).loc main_arg4) i := funext (scales_w m c)
  rw [e0, e1]
  exact result_eq _ _ _ _ _ _ _ (hs c)

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and the reference, over the extended reals, end with equal results when the segment starts are sorted. -/
theorem algebraic : Cert.algebraic_KernelIdeal_ReferenceIdeal_pre_seg_starts_sorted (hKernelIdeal := Cert.KernelIdeal.Gen.facts)
    (hReferenceIdeal := Cert.ReferenceIdeal.Gen.facts) (hPre_seg_starts_sorted := Cert.Segment.preFacts) := by
  intro m g m' g' hpre hargs
  have hs : ∀ c : Dev Cert.ReferenceIdeal.nD,
      Cert.Segment.Sorted (m' ((c.tc : Thread Cert.ReferenceIdeal.nD Cert.ReferenceIdeal.τ).loc Cert.ReferenceIdeal.main_arg6)) := fun c => by
    rw [(hargs c).2.2.2.2.2.2]
    exact @Cert.Segment.sorted_of_pre Cert.Segment.preFacts _ _ _ _ _ _ _ (hpre c)
  refine ⟨fun c => Cert.KernelIdeal.Decode.resultOf m c, Cert.KernelIdeal.Decode.run_result m g, ?_⟩
  refine (θ_run _ _ _).mono (fun r h c => ⟨(h c).1.trans ?_, (h c).2⟩) (Cert.Equation.run_reference m' g' hs)
  obtain ⟨e0, e1, e2, e3, e4, e5, e6⟩ := hargs c
  rw [e0, e1, e2, e3, e4, e5, e6]
  rfl

theorem claim : Cert.Claim := ⟨Cert.Kernel.Gen.facts, Cert.KernelIdeal.Gen.facts, Cert.ReferenceIdeal.Gen.facts, Cert.Segment.preFacts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
